-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)) →
    ∃ (v0 : (c : Dev Cert.OddIdeal.nD) → Buf (Elt Ideal) ((c.tc : Thread Cert.OddIdeal.nD Cert.OddIdeal.τ).loc Cert.OddIdeal.main_v12)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v12) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v66) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v11_0)) (v1 : (c : Dev Cert.InIdeal.nD) → Buf (Elt Ideal) ((c.tc : Thread Cert.InIdeal.nD Cert.InIdeal.τ).loc Cert.InIdeal.main_v11_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v11_0) = v0 c
          ∧ r.2.mem ((c.tc : Thread Cert.InIdeal.nD Cert.InIdeal.τ).loc Cert.InIdeal.main_v11_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v21) = v0 c
          ∧ r.2.mem ((c.tc : Thread Cert.InRefIdeal.nD Cert.InRefIdeal.τ).loc Cert.InRefIdeal.main_v20) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def Claim : Prop :=
  ∃ (hFfn : Cert.Ffn.Facts) (hFfnIdeal : Cert.FfnIdeal.Facts) (hFfnRefIdeal : Cert.FfnRefIdeal.Facts) (hOdd : Cert.Odd.Facts) (hOddIdeal : Cert.OddIdeal.Facts) (hOddRefIdeal : Cert.OddRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Odd (hOdd := hOdd)
    ∧ quiescent_OddIdeal (hOddIdeal := hOddIdeal)
    ∧ quiescent_OddRefIdeal (hOddRefIdeal := hOddRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ preserves_Ffn_FfnIdeal
    ∧ algebraic_FfnIdeal_FfnRefIdeal (hFfnIdeal := hFfnIdeal) (hFfnRefIdeal := hFfnRefIdeal)
    ∧ preserves_Odd_OddIdeal
    ∧ algebraic_OddIdeal_OddRefIdeal (hOddIdeal := hOddIdeal) (hOddRefIdeal := hOddRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
-- ==== Ffn.lean ====
abbrev S4x4096x2048 : Shape := ⟨3, ![4, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S16384x2048 : Shape := ⟨2, ![16384, 2048]⟩
abbrev S1x2048 : Shape := ⟨2, ![1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 21
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048x5632, .f32⟩
  | .hbm, ⟨11, _⟩ => ⟨S2048x5632, .f32⟩
  | .hbm, ⟨12, _⟩ => ⟨S2048x5632, .bf16⟩
  | .hbm, ⟨13, _⟩ => ⟨S1x2048x5632, .f32⟩
  | .hbm, ⟨14, _⟩ => ⟨S2048x5632, .f32⟩
  | .hbm, ⟨15, _⟩ => ⟨S2048x5632, .bf16⟩
  | .hbm, ⟨16, _⟩ => ⟨S1x5632x2048, .f32⟩
  | .hbm, ⟨17, _⟩ => ⟨S5632x2048, .f32⟩
  | .hbm, ⟨18, _⟩ => ⟨S5632x2048, .bf16⟩
  | .hbm, ⟨19, _⟩ => ⟨S1x2048, .f32⟩
  | .hbm, ⟨20, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x4096x2048 : Shape := ⟨3, ![4, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x4096x5632 : Shape := ⟨3, ![4, 4096, 5632]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S_, .f32⟩
  | .hbm, ⟨34, _⟩ => ⟨S4x4096x5632, .f32⟩
  | .hbm, ⟨35, _⟩ => ⟨S4x4096x5632, .f32⟩
  | .hbm, ⟨36, _⟩ => ⟨S_, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x2048, .f32⟩
  | .hbm, ⟨56, _⟩ => ⟨S4x4096x2048, .f32⟩
  | .hbm, ⟨57, _⟩ => ⟨S1x1x2048, .f32⟩
  | .hbm, ⟨58, _⟩ => ⟨S4x4096x2048, .f32⟩
  | .hbm, ⟨59, _⟩ => ⟨S4x4096x2048, .f32⟩
  | .hbm, ⟨60, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Odd.lean ====
abbrev S4x4096x2048 : Shape := ⟨3, ![4, 4096, 2048]⟩
abbrev S1x2048 : Shape := ⟨2, ![1, 2048]⟩
abbrev S1x2048x4096 : Shape := ⟨3, ![1, 2048, 4096]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S16384x2048 : Shape := ⟨2, ![16384, 2048]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S512x2048 : Shape := ⟨2, ![512, 2048]⟩
abbrev S1x2048x1024 : Shape := ⟨3, ![1, 2048, 1024]⟩
abbrev S2x512x1024 : Shape := ⟨3, ![2, 512, 1024]⟩
abbrev S2x512x1 : Shape := ⟨3, ![2, 512, 1]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1x512x1024 : Shape := ⟨3, ![1, 512, 1024]⟩
abbrev S1x512x1 : Shape := ⟨3, ![1, 512, 1]⟩
abbrev S1x1024 : Shape := ⟨2, ![1, 1024]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S2048x2048 : Shape := ⟨2, ![2048, 2048]⟩

abbrev nBuf : Space → Nat
  | .hbm => 21
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x4096, .f32⟩
  | .hbm, ⟨3, _⟩ => ⟨S1x2048, .f32⟩
  | .hbm, ⟨4, _⟩ => ⟨S1x2048, .f32⟩
  | .hbm, ⟨5, _⟩ => ⟨S1x8x128x128, .f32⟩
  | .hbm, ⟨6, _⟩ => ⟨S1x8x128, .f32⟩
  | .hbm, ⟨7, _⟩ => ⟨S1x2048x2048, .f32⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S1x2048x4096, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8x128x128, .f32⟩
  | .hbm, ⟨17, _⟩ => ⟨S8x128, .f32⟩
  | .hbm, ⟨18, _⟩ => ⟨S128x8, .f32⟩
  | .hbm, ⟨19, _⟩ => ⟨S1x2048x2048, .bf16⟩
  | .hbm, ⟨20, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048, .f32⟩
  | .local _ .vmem, ⟨6, _⟩ => ⟨S1x2048, .f32⟩
  | .local _ .vmem, ⟨7, _⟩ => ⟨S8x128x128, .f32⟩
  | .local _ .vmem, ⟨8, _⟩ => ⟨S128x8, .f32⟩
  | .local _ .vmem, ⟨9, _⟩ => ⟨S1x2048x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S2x512x1024, .f32⟩
  | .local _ .vmem, ⟨14, _⟩ => ⟨S2x512x1, .f32⟩
  | .local _ .vmem, ⟨15, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v24 : Index := Scalar.indexCast arg1
  let c0_12 : Index := 0#32
  let c0_13 : Index := 0#32
  ![v24.toNat, 0, 0]
def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.addi arg1 c2_i32_0
  let c2_i32_1 : BitVec 32 := 2#32
  let v2 : BitVec 32 := Scalar.subi arg1 c2_i32_1
  let v3 : BitVec 32 := Scalar.select v0 v1 v2
  let c0_i32 : BitVec 32 := 0#32
  let c0_i32_2 : BitVec 32 := 0#32
  let c0_i32_3 : BitVec 32 := 0#32
  ![c0_i32.toNat, c0_i32_2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== OddRefIdeal.lean ====
abbrev S4x4096x2048 : Shape := ⟨3, ![4, 4096, 2048]⟩
abbrev S1x2048 : Shape := ⟨2, ![1, 2048]⟩
abbrev S1x2048x4096 : Shape := ⟨3, ![1, 2048, 4096]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x4096 : Shape := ⟨2, ![2048, 4096]⟩
abbrev S8x128x128 : Shape := ⟨3, ![8, 128, 128]⟩
abbrev S8x128 : Shape := ⟨2, ![8, 128]⟩
abbrev S2048x2048 : Shape := ⟨2, ![2048, 2048]⟩
abbrev S4x4096x4096 : Shape := ⟨3, ![4, 4096, 4096]⟩
abbrev S4x32x128x8x256 : Shape := ⟨5, ![4, 32, 128, 8, 256]⟩
abbrev S128x128 : Shape := ⟨2, ![128, 128]⟩
abbrev S8x4x32x256x128 : Shape := ⟨5, ![8, 4, 32, 256, 128]⟩
abbrev S128x8 : Shape := ⟨2, ![128, 8]⟩
abbrev S1x1x128x8x1 : Shape := ⟨5, ![1, 1, 128, 8, 1]⟩
abbrev S16384x2048 : Shape := ⟨2, ![16384, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x4096, .f32⟩
  | .hbm, ⟨3, _⟩ => ⟨S1x2048, .f32⟩
  | .hbm, ⟨4, _⟩ => ⟨S1x2048, .f32⟩
  | .hbm, ⟨5, _⟩ => ⟨S1x8x128x128, .f32⟩
  | .hbm, ⟨6, _⟩ => ⟨S1x8x128, .f32⟩
  | .hbm, ⟨7, _⟩ => ⟨S1x2048x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S2048x4096, .f32⟩
  | .hbm, ⟨26, _⟩ => ⟨S2048, .f32⟩
  | .hbm, ⟨27, _⟩ => ⟨S2048, .f32⟩
  | .hbm, ⟨28, _⟩ => ⟨S8x128x128, .f32⟩
  | .hbm, ⟨29, _⟩ => ⟨S8x128, .f32⟩
  | .hbm, ⟨30, _⟩ => ⟨S2048x2048, .f32⟩
  | .hbm, ⟨31, _⟩ => ⟨S4x4096x4096, .f32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S4x4096x2048, .f32⟩
  | .hbm, ⟨42, _⟩ => ⟨S4x4096x2048, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x2048, .f32⟩
  | .hbm, ⟨59, _⟩ => ⟨S4x4096x2048, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x2048, .f32⟩
  | .hbm, ⟨65, _⟩ => ⟨S4x4096x2048, .f32⟩
  | .hbm, ⟨66, _⟩ => ⟨S1x1x2048, .f32⟩
  | .hbm, ⟨67, _⟩ => ⟨S4x4096x2048, .f32⟩
  | .hbm, ⟨68, _⟩ => ⟨S4x4096x2048, .f32⟩
  | .hbm, ⟨69, _⟩ => ⟨S1x1x2048, .f32⟩
  | .hbm, ⟨70, _⟩ => ⟨S4x4096x2048, .f32⟩
  | .hbm, ⟨71, _⟩ => ⟨S4x4096x2048, .f32⟩
  | .hbm, ⟨72, _⟩ => ⟨S4x32x128x8x256, .f32⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S8x128x128, .i1⟩
  | .hbm, ⟨80, _⟩ => ⟨S_, .f32⟩
  | .hbm, ⟨81, _⟩ => ⟨S8x128x128, .f32⟩
  | .hbm, ⟨82, _⟩ => ⟨S8x128x128, .f32⟩
  | .hbm, ⟨83, _⟩ => ⟨S8x4x32x256x128, .f32⟩
  | .hbm, ⟨84, _⟩ => ⟨S4x32x128x8x256, .f32⟩
  | .hbm, ⟨85, _⟩ => ⟨S128x8, .f32⟩
  | .hbm, ⟨86, _⟩ => ⟨S1x1x128x8x1, .f32⟩
  | .hbm, ⟨87, _⟩ => ⟨S4x32x128x8x256, .f32⟩
  | .hbm, ⟨88, _⟩ => ⟨S4x32x128x8x256, .f32⟩
  | .hbm, ⟨89, _⟩ => ⟨S4x4096x2048, .f32⟩
  | .hbm, ⟨90, _⟩ => ⟨S4x4096x2048, .f32⟩
  | .hbm, ⟨91, _⟩ => ⟨S4x4096x2048, .f32⟩
  | .hbm, ⟨92, _⟩ => ⟨S4x4096x2048, .f32⟩
  | .hbm, ⟨93, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_cst : Ref sig .tc := ⟨.hbm, 80, rfl⟩
abbrev main_call0_v6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== In.lean ====
abbrev S4x4096x2048 : Shape := ⟨3, ![4, 4096, 2048]⟩
abbrev S1x2048 : Shape := ⟨2, ![1, 2048]⟩
abbrev S1x2048x5392 : Shape := ⟨3, ![1, 2048, 5392]⟩
abbrev S1x2048x16 : Shape := ⟨3, ![1, 2048, 16]⟩
abbrev S2048x16 : Shape := ⟨2, ![2048, 16]⟩
abbrev S2048x8 : Shape := ⟨2, ![2048, 8]⟩
abbrev S2048x24 : Shape := ⟨2, ![2048, 24]⟩
abbrev S_ : Shape := ⟨0, ![]⟩
abbrev S2048x128 : Shape := ⟨2, ![2048, 128]⟩
abbrev S16384x2048 : Shape := ⟨2, ![16384, 2048]⟩
abbrev S2048 : Shape := ⟨1, ![2048]⟩
abbrev S2048x5392 : Shape := ⟨2, ![2048, 5392]⟩
abbrev S16384x5376 : Shape := ⟨2, ![16384, 5376]⟩
abbrev S16384x128 : Shape := ⟨2, ![16384, 128]⟩
abbrev S1024x2048 : Shape := ⟨2, ![1024, 2048]⟩
abbrev S2048x1792 : Shape := ⟨2, ![2048, 1792]⟩
abbrev S1024x1792 : Shape := ⟨2, ![1024, 1792]⟩
abbrev S1024x128 : Shape := ⟨2, ![1024, 128]⟩
abbrev S1024 : Shape := ⟨1, ![1024]⟩
abbrev S1024x1 : Shape := ⟨2, ![1024, 1]⟩

abbrev nBuf : Space → Nat
  | .hbm => 18
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5392, .f32⟩
  | .hbm, ⟨3, _⟩ => ⟨S1x2048x16, .f32⟩
  | .hbm, ⟨4, _⟩ => ⟨S2048x16, .f32⟩
  | .hbm, ⟨5, _⟩ => ⟨S2048x8, .f32⟩
  | .hbm, ⟨6, _⟩ => ⟨S2048x24, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S16384x2048, .f32⟩
  | .hbm, ⟨12, _⟩ => ⟨S2048, .f32⟩
  | .hbm, ⟨13, _⟩ => ⟨S1x2048, .f32⟩
  | .hbm, ⟨14, _⟩ => ⟨S2048x5392, .f32⟩
  | .hbm, ⟨15, _⟩ => ⟨S2048x5392, .bf16⟩
  | .hbm, ⟨16, _⟩ => ⟨S16384x5376, .f32⟩
  | .hbm, ⟨17, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S2048x128, .bf16⟩
  | .local _ .vmem, ⟨6, _⟩ => ⟨S1024x1792, .f32⟩
  | .local _ .vmem, ⟨7, _⟩ => ⟨S1024x1792, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InRefIdeal.lean ====
abbrev S4x4096x2048 : Shape := ⟨3, ![4, 4096, 2048]⟩
abbrev S1x2048 : Shape := ⟨2, ![1, 2048]⟩
abbrev S1x2048x5392 : Shape := ⟨3, ![1, 2048, 5392]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5392 : Shape := ⟨2, ![2048, 5392]⟩
abbrev S4x4096x5392 : Shape := ⟨3, ![4, 4096, 5392]⟩
abbrev S16384x5392 : Shape := ⟨2, ![16384, 5392]⟩
abbrev S16384x8 : Shape := ⟨2, ![16384, 8]⟩
abbrev S16384x104 : Shape := ⟨2, ![16384, 104]⟩
abbrev S16384x128 : Shape := ⟨2, ![16384, 128]⟩
abbrev S16384x5376 : Shape := ⟨2, ![16384, 5376]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5392, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x5392, .f32⟩
  | .hbm, ⟨21, _⟩ => ⟨S4x4096x5392, .f32⟩
  | .hbm, ⟨22, _⟩ => ⟨S16384x5392, .f32⟩
  | .hbm, ⟨23, _⟩ => ⟨S16384x8, .f32⟩
  | .hbm, ⟨24, _⟩ => ⟨S16384x8, .f32⟩
  | .hbm, ⟨25, _⟩ => ⟨S_, .f32⟩
  | .hbm, ⟨26, _⟩ => ⟨S16384x104, .f32⟩
  | .hbm, ⟨27, _⟩ => ⟨S16384x128, .f32⟩
  | .hbm, ⟨28, _⟩ => ⟨S16384x5376, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Out.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S16384x1024 : Shape := ⟨2, ![16384, 1024]⟩
abbrev S16384x2048 : Shape := ⟨2, ![16384, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S1x2048x2048, .f32⟩
  | .hbm, ⟨4, _⟩ => ⟨S16384x1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S1x2048x2048, .bf16⟩
  | .hbm, ⟨9, _⟩ => ⟨S16384x2048, .f32⟩
  | .hbm, ⟨10, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S1x2048x2048, .f32⟩
  | .hbm, ⟨4, _⟩ => ⟨S4x4096x2048, .f32⟩
  | .hbm, ⟨5, _⟩ => ⟨S2048x2048, .f32⟩
  | .hbm, ⟨6, _⟩ => ⟨S4x4096x2048, .f32⟩
  | .hbm, ⟨7, _⟩ => ⟨S4x4096x2048, .f32⟩
  | .hbm, ⟨8, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Ffn.Spec.lean ====
/- The feed-forward layer as plain sums over the extended reals, with no program in it: the root-mean-square
   normalization of one row, the gated hidden units of one row, and the layer's result. Both programs are
   compared with these functions. -/
module

public import Idealize.ShloMosaic.PureOps.Ideal

@[expose] public section

noncomputable section

namespace Cert.FfnSpec

open Idealize.ShloMosaic

/-- One row divided by the root of its mean square (2048 entries, the small constant added), times a gain. -/
def rms (x g : Fin 2048 → EReal) (k : Fin 2048) : EReal :=
  x k * Ideal.rsqrt (Ideal.div (∑ j : Fin 2048, x j * x j) (Ideal.ofBits .f32 0x45000000#32)
    + Ideal.ofBits .f32 0x358637BD#32) * g k

/-- Hidden unit `f` of a row `a`: `z · logistic z · u` with `z` the gate's and `u` the other matrix's product. -/
def unit {K : Type} (a : Fin 2048 → EReal) (wg wu : Fin 2048 → K → EReal) (f : K) : EReal :=
  (∑ k, a k * wg k f) * Ideal.logistic (∑ k, a k * wg k f) * (∑ k, a k * wu k f)

/-- Hidden unit `f`'s contribution to column `c` of a row, nothing past the 5632 units. -/
def term (a : Fin 2048 → EReal) (wg wu : Fin 2048 → Fin 5632 → EReal) (wd : Fin 5632 → Fin 2048 → EReal)
    (c : Fin 2048) (f : ℕ) : EReal :=
  if hf : f < 5632 then unit a wg wu ⟨f, hf⟩ * wd ⟨f, hf⟩ c else 0

/-- All the contributions together. -/
theorem sum_term (a : Fin 2048 → EReal) (wg wu : Fin 2048 → Fin 5632 → EReal) (wd : Fin 5632 → Fin 2048 → EReal)
    (c : Fin 2048) : ∑ f ∈ Finset.range 5632, term a wg wu wd c f = ∑ f : Fin 5632, unit a wg wu f * wd f c := by
  rw [Finset.sum_range]
  exact Finset.sum_congr rfl fun f _ => by rw [term, dif_pos f.isLt]

/-- A running sum over the first `j` blocks of 512 units, one more block added. -/
theorem add_block (a : Fin 2048 → EReal) (wg wu : Fin 2048 → Fin 5632 → EReal) (wd : Fin 5632 → Fin 2048 → EReal)
    (c : Fin 2048) (x : EReal) (j : ℕ) (hj : j < 11) (G U : Fin 2048 → Fin 512 → EReal) (D : Fin 512 → Fin 2048 → EReal)
    (hG : ∀ k f, G k f = wg k ⟨512 * j + f.val, by omega⟩) (hU : ∀ k f, U k f = wu k ⟨512 * j + f.val, by omega⟩)
    (hD : ∀ f, D f c = wd ⟨512 * j + f.val, by omega⟩ c) :
    x + ∑ f ∈ Finset.range (512 * j), term a wg wu wd c f + ∑ f : Fin 512, unit a G U f * D f c
      = x + ∑ f ∈ Finset.range (512 * (j + 1)), term a wg wu wd c f := by
  rw [show 512 * (j + 1) = 512 * j + 512 from rfl, Finset.sum_range_add, add_assoc, Finset.sum_range (n := 512)]
  congr 2
  refine Finset.sum_congr rfl fun f _ => ?_
  rw [term, dif_pos (by omega), unit, unit, hD]
  simp only [hG, hU]

/-- One row's result: residual plus the down projection of all 5632 hidden units, normalized. -/
def out (h g : Fin 2048 → EReal) (wg wu : Fin 2048 → Fin 5632 → EReal) (wd : Fin 5632 → Fin 2048 → EReal)
    (gf : Fin 2048 → EReal) : Fin 2048 → EReal :=
  rms (fun c => h c + ∑ f : Fin 5632, unit (rms h g) wg wu f * wd f c) gf

end Cert.FfnSpec

end
-- ==== Proof.Ffn.Pay.lean ====
/- The feed-forward kernel's stored values, each read at one entry. -/
module

public import proofs.«01_k».proof.Proof.Gen.FfnIdeal.Value
public import proofs.«01_k».proof.Proof.Ffn.Spec
public import proofs.«01_k».proof.Proof.Gen.FfnRefIdeal.Read
public import Idealize.ShloMosaic.Lib.Pointwise
public import Idealize.ShloMosaic.Lib.Pipeline.ValueKit

@[expose] public section

set_option maxRecDepth 16384

noncomputable section

namespace Cert.FfnIdeal.Pay

open Cert.FfnIdeal Cert.FfnIdeal.Gen Idealize.ShloMosaic Cert.FfnSpec

/-- The normalized row the first point keeps. -/
theorem pay2_apply (x : Vec Ideal S1024x2048 .f32) (g : Vec Ideal S1x2048 .f32) (r : Fin 1024) (k : Fin 2048) :
    k0_pay2 x g (ix2 r k) = rms (fun j => x (ix2 r j)) (fun j => g (ix2 0 j)) k := by
  unfold rms
  pointwise [k0_pay2, k0_pay1]

/-- The residual row the first point starts the sum from. -/
theorem pay1_apply (x : Vec Ideal S1024x2048 .f32) (r : Fin 1024) (k : Fin 2048) :
    k0_pay1 x (ix2 r k) = x (ix2 r k) := by
  pointwise [k0_pay1]

/-- One point's step: the running sum plus this block of 512 hidden units projected down. -/
theorem pay3_apply (a : Vec Ideal S1024x2048 .bf16) (wg wu : Vec Ideal S2048x512 .bf16)
    (acc : Vec Ideal S1024x2048 .f32) (wd : Vec Ideal S512x2048 .bf16) (r : Fin 1024) (c : Fin 2048) :
    k0_pay3 a wg wu acc wd (ix2 r c)
      = acc (ix2 r c) + ∑ f : Fin 512, unit (fun k => a (ix2 r k)) (fun k f => wg (ix2 k f)) (fun k f => wu (ix2 k f)) f
          * wd (ix2 f c) := by
  unfold unit
  pointwise [k0_pay3]

/-- The last point's normalization. -/
theorem pay4_apply (x : Vec Ideal S1024x2048 .f32) (g : Vec Ideal S1x2048 .f32) (r : Fin 1024) (k : Fin 2048) :
    k0_pay4 x g (ix2 r k) = rms (fun j => x (ix2 r j)) (fun j => g (ix2 0 j)) k := by
  unfold rms
  pointwise [k0_pay4]

end Cert.FfnIdeal.Pay

end
-- ==== Proof.Ffn.Point.lean ====
/- The feed-forward kernel's points: what each kind of point leaves in the output block and in the kept rows,
   as the body's stored values over the point's input blocks. -/
module

public import proofs.«01_k».proof.Proof.Gen.FfnIdeal.Value
public import proofs.«01_k».proof.Proof.Gen.FfnRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Point

open Cert.FfnIdeal Cert.FfnIdeal.Gen Idealize.ShloMosaic Idealize.ShloMosaic.TcCoe

variable {F : FTy → Type} [FloatOps F] (m : (ℓ : Loc nD τ sig) → Buf (Elt F) ℓ)

/-- The first point of a block of rows: the normalized rows are kept and the sum starts at the residual. -/
theorem outs_A (c : Dev nD) (t : Fin cfg0.N) (h0 : t.val % 11 = 0) (h1 : ¬t.val % 11 = 10) :
    outsAt0 m c t.val t.isLt =
      (k0_pay3 (k0_pay2 (iblk m c 0 t) (iblk m c 1 t)) (iblk m c 2 t) (iblk m c 3 t) (k0_pay1 (iblk m c 0 t))
        (iblk m c 4 t), k0_pay2 (iblk m c 0 t) (iblk m c 1 t)) := by
  rw [outsAt0_A m c t h0 h1]
  refine Prod.ext ?_ ?_
  · frame_out
  · frame_out

/-- A point in between: one block of hidden units is added, the kept rows stay. -/
theorem outs_B (c : Dev nD) (t : Fin cfg0.N) (h0 : ¬t.val % 11 = 0) (h1 : ¬t.val % 11 = 10) :
    outsAt0 m c t.val t.isLt =
      (k0_pay3 (outsAt0 m c (t.val - 1) (Nat.lt_of_le_of_lt (Nat.sub_le _ _) t.isLt)).2 (iblk m c 2 t) (iblk m c 3 t)
        (outsAt0 m c (t.val - 1) (Nat.lt_of_le_of_lt (Nat.sub_le _ _) t.isLt)).1 (iblk m c 4 t),
       (outsAt0 m c (t.val - 1) (Nat.lt_of_le_of_lt (Nat.sub_le _ _) t.isLt)).2) := by
  rw [outsAt0_B m c t h0 h1]
  refine Prod.ext ?_ ?_
  · frame_out
    rw [read_unread_whole]
  · rfl

/-- The last point of a block of rows: the last hidden units are added and the sum is normalized. -/
theorem outs_C (c : Dev nD) (t : Fin cfg0.N) (h0 : ¬t.val % 11 = 0) (h1 : t.val % 11 = 10) :
    (outsAt0 m c t.val t.isLt).1 =
      k0_pay4 (k0_pay3 (outsAt0 m c (t.val - 1) (Nat.lt_of_le_of_lt (Nat.sub_le _ _) t.isLt)).2 (iblk m c 2 t)
        (iblk m c 3 t) (outsAt0 m c (t.val - 1) (Nat.lt_of_le_of_lt (Nat.sub_le _ _) t.isLt)).1 (iblk m c 4 t))
        (iblk m c 5 t) := by
  rw [outsAt0_C m c t h0 h1]
  frame_out
  rw [read_unread_whole]

end Cert.FfnIdeal.Point

end
-- ==== Proof.Ffn.Blocks.lean ====
/- The feed-forward kernel's input blocks read at an entry, as entries of the argument arrays. -/
module

public import proofs.«01_k».proof.Proof.Gen.FfnIdeal.Value
public import proofs.«01_k».proof.Proof.Gen.FfnRefIdeal.Read
public import Idealize.ShloMosaic.Lib.Pointwise
public import Idealize.ShloMosaic.Lib.Pipeline.ValueKit

@[expose] public section

set_option maxRecDepth 16384

noncomputable section

namespace Cert.FfnIdeal.Blocks

open Cert.FfnIdeal Cert.FfnIdeal.Gen Idealize.ShloMosaic Idealize.ShloMosaic.TcCoe

variable (m : (ℓ : Loc nD τ sig) → Buf (Elt Ideal) ℓ)

/-- Every point lies in the grid of 16 row blocks by 11 unit blocks. -/
theorem lt (t : Fin cfg0.N) : t.val < 176 := t.isLt

/-- The blocks' indices at a point, window by window. -/
theorem idx : ∀ t : Fin grid0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![0, 0] := by decide +kernel

/-- The residual rows of a point. -/
theorem blk0 (c : Dev nD) (t : Fin cfg0.N) (r : Fin 1024) (k : Fin 2048) :
    iblk m c 0 t (ix2 r k) = m ((c : Thread nD τ).loc main_arg0)
      (ix3 ⟨(1024 * (t.val / 11) + r.val) / 4096, by have := lt t; omega⟩
        ⟨(1024 * (t.val / 11) + r.val) % 4096, by omega⟩ k) := by
  have := lt t
  blk_ext! [iblk, V, idx t]

/-- The input gain. -/
theorem blk1 (c : Dev nD) (t : Fin cfg0.N) (k : Fin 2048) :
    iblk m c 1 t (ix2 0 k) = m ((c : Thread nD τ).loc main_arg1) (ix2 1 k) := by
  blk_ext! [iblk, V, idx t]

/-- The gate's columns of a point. -/
theorem blk2 (c : Dev nD) (t : Fin cfg0.N) (k : Fin 2048) (f : Fin 512) :
    iblk m c 2 t (ix2 k f) = m ((c : Thread nD τ).loc main_arg2)
      (ix3 1 k ⟨512 * (t.val % 11) + f.val, by omega⟩) := by
  blk_ext! [iblk, V, idx t]

/-- The other matrix's columns of a point. -/
theorem blk3 (c : Dev nD) (t : Fin cfg0.N) (k : Fin 2048) (f : Fin 512) :
    iblk m c 3 t (ix2 k f) = m ((c : Thread nD τ).loc main_arg3)
      (ix3 1 k ⟨512 * (t.val % 11) + f.val, by omega⟩) := by
  blk_ext! [iblk, V, idx t]

/-- The down projection's rows of a point. -/
theorem blk4 (c : Dev nD) (t : Fin cfg0.N) (f : Fin 512) (k : Fin 2048) :
    iblk m c 4 t (ix2 f k) = m ((c : Thread nD τ).loc main_arg4)
      (ix3 1 ⟨512 * (t.val % 11) + f.val, by omega⟩ k) := by
  blk_ext! [iblk, V, idx t]

/-- The last normalization's gain. -/
theorem blk5 (c : Dev nD) (t : Fin cfg0.N) (k : Fin 2048) :
    iblk m c 5 t (ix2 0 k) = m ((c : Thread nD τ).loc main_arg5) (ix1 k) := by
  blk_ext! [iblk, V, idx t]

end Cert.FfnIdeal.Blocks

end
-- ==== Proof.Ffn.Fold.lean ====
/- The feed-forward kernel's sweep over the hidden units: what the output block and the kept rows hold after
   each point, and the whole result array. -/
module

public import proofs.«01_k».proof.Proof.Gen.FfnIdeal.Value
public import proofs.«01_k».proof.Proof.Ffn.Pay
public import proofs.«01_k».proof.Proof.Ffn.Point
public import proofs.«01_k».proof.Proof.Ffn.Blocks
public import Idealize.ShloMosaic.Lib.Pointwise
public import Idealize.ShloMosaic.Lib.Pipeline.ValueKit

@[expose] public section

set_option maxRecDepth 16384

noncomputable section

namespace Cert.FfnIdeal.Fold

open Cert.FfnIdeal Cert.FfnIdeal.Gen Idealize.ShloMosaic Idealize.ShloMosaic.TcCoe Cert.FfnSpec
open Cert.FfnIdeal.Pay Cert.FfnIdeal.Point Cert.FfnIdeal.Blocks

variable (m : (ℓ : Loc nD τ sig) → Buf (Elt Ideal) ℓ) (c : Dev nD)

/-- Row `R` of the 16384 residual rows. -/
def hrow (R : ℕ) (hR : R < 16384) : Fin 2048 → EReal := fun k =>
  m ((c : Thread nD τ).loc main_arg0) (ix3 ⟨R / 4096, by omega⟩ ⟨R % 4096, by omega⟩ k)

/-- The second layer's input gain. -/
def gain : Fin 2048 → EReal := fun k => m ((c : Thread nD τ).loc main_arg1) (ix2 1 k)

/-- The second layer's gate matrix. -/
def gate : Fin 2048 → Fin 5632 → EReal := fun k f => m ((c : Thread nD τ).loc main_arg2) (ix3 1 k f)

/-- The second layer's other matrix. -/
def up : Fin 2048 → Fin 5632 → EReal := fun k f => m ((c : Thread nD τ).loc main_arg3) (ix3 1 k f)

/-- The second layer's down projection. -/
def down : Fin 5632 → Fin 2048 → EReal := fun f k => m ((c : Thread nD τ).loc main_arg4) (ix3 1 f k)

/-- The gain of the last normalization. -/
def lastGain : Fin 2048 → EReal := fun k => m ((c : Thread nD τ).loc main_arg5) (ix1 k)

/-- Row `r` of point `n`'s block is one of the 16384 rows. -/
theorem row_lt (n : ℕ) (hn : n < cfg0.N) (r : Fin 1024) : 1024 * (n / 11) + r.val < 16384 := by
  have : n < 176 := hn
  omega

/-- One step's contribution added to a running sum that starts at the residual. -/
theorem step (t : Fin cfg0.N) (a : Vec Ideal S1024x2048 .bf16) (o : Vec Ideal S1024x2048 .f32) (R : ℕ) (hR : R < 16384)
    (r : Fin 1024) (k : Fin 2048) (ha : ∀ j, a (ix2 r j) = rms (hrow m c R hR) (gain m c) j)
    (ho : o (ix2 r k) = hrow m c R hR k + ∑ f ∈ Finset.range (512 * (t.val % 11)),
      term (rms (hrow m c R hR) (gain m c)) (gate m c) (up m c) (down m c) k f) :
    k0_pay3 a (iblk m c 2 t) (iblk m c 3 t) o (iblk m c 4 t) (ix2 r k)
      = hrow m c R hR k + ∑ f ∈ Finset.range (512 * (t.val % 11 + 1)),
          term (rms (hrow m c R hR) (gain m c)) (gate m c) (up m c) (down m c) k f := by
  rw [pay3_apply, ho, show (fun k => a (ix2 r k)) = rms (hrow m c R hR) (gain m c) from funext ha]
  exact add_block _ _ _ _ _ _ _ (Nat.mod_lt _ (by decide)) _ _ (fun f k => iblk m c 4 t (ix2 f k))
    (fun k f => blk2 m c t k f) (fun k f => blk3 m c t k f) (fun f => blk4 m c t f k)

/-- The input rows normalized, as the first point stores them. -/
theorem norm_first (t : Fin cfg0.N) (R : ℕ) (hR : R < 16384) (r : Fin 1024) (e : R = 1024 * (t.val / 11) + r.val)
    (k : Fin 2048) : k0_pay2 (iblk m c 0 t) (iblk m c 1 t) (ix2 r k) = rms (hrow m c R hR) (gain m c) k := by
  subst e
  rw [pay2_apply, show (fun j => iblk m c 0 t (ix2 r j)) = hrow m c _ hR from
      funext fun j => blk0 m c t r j, show (fun j => iblk m c 1 t (ix2 0 j)) = gain m c from
      funext fun j => blk1 m c t j]

/-- The residual rows, as the first point starts from them. -/
theorem first (t : Fin cfg0.N) (R : ℕ) (hR : R < 16384) (r : Fin 1024) (e : R = 1024 * (t.val / 11) + r.val)
    (k : Fin 2048) : k0_pay1 (iblk m c 0 t) (ix2 r k) = hrow m c R hR k := by
  subst e
  rw [pay1_apply, blk0]
  rfl

/-- After every point but the last of a row block: the running sum and the kept rows. -/
theorem sweep : ∀ (n : ℕ) (hn : n < cfg0.N), n % 11 ≠ 10 → ∀ (r : Fin 1024) (R : ℕ) (hR : R < 16384),
    R = 1024 * (n / 11) + r.val →
    (∀ k, (outsAt0 m c n hn).1 (ix2 r k) = hrow m c R hR k + ∑ f ∈ Finset.range (512 * (n % 11 + 1)),
          term (rms (hrow m c R hR) (gain m c)) (gate m c) (up m c) (down m c) k f)
    ∧ ∀ k, (outsAt0 m c n hn).2 (ix2 r k) = rms (hrow m c R hR) (gain m c) k := by
  have start : ∀ (t : Fin cfg0.N), t.val % 11 = 0 → ¬t.val % 11 = 10 → ∀ (r : Fin 1024) (R : ℕ) (hR : R < 16384),
      R = 1024 * (t.val / 11) + r.val →
      (∀ k, (outsAt0 m c t.val t.isLt).1 (ix2 r k) = hrow m c R hR k + ∑ f ∈ Finset.range (512 * (t.val % 11 + 1)),
          term (rms (hrow m c R hR) (gain m c)) (gate m c) (up m c) (down m c) k f)
      ∧ ∀ k, (outsAt0 m c t.val t.isLt).2 (ix2 r k) = rms (hrow m c R hR) (gain m c) k := by
    intro t h0 h10 r R hR e
    rw [outs_A m c t h0 h10]
    refine ⟨fun k => step m c t _ _ R hR r k (norm_first m c t R hR r e) ?_, norm_first m c t R hR r e⟩
    rw [first m c t R hR r e, h0]
    simp
  intro n
  induction n with
  | zero => exact fun hn h10 => start ⟨0, hn⟩ rfl h10
  | succ n ih =>
    intro hn h10 r R hR hRe
    by_cases h0 : (n + 1) % 11 = 0
    · exact start ⟨n + 1, hn⟩ h0 h10 r R hR hRe
    · have e := outs_B m c ⟨n + 1, hn⟩ h0 h10
      simp only [Nat.add_sub_cancel] at e
      have hr : (n + 1) % 11 = n % 11 + 1 := by omega
      obtain ⟨i1, i2⟩ := ih (by omega) (by omega) r R hR (by omega)
      rw [e]
      refine ⟨fun k => ?_, i2⟩
      refine step m c ⟨n + 1, hn⟩ _ _ _ _ r k i2 ?_
      rw [i1 k, hr]

/-- After the last point of a row block: the layer's rows. -/
theorem last (n : ℕ) (hn : n < cfg0.N) (h10 : n % 11 = 10) (r : Fin 1024) (R : ℕ) (hR : R < 16384)
    (hRe : R = 1024 * (n / 11) + r.val) (k : Fin 2048) :
    (outsAt0 m c n hn).1 (ix2 r k)
      = out (hrow m c R hR) (gain m c) (gate m c) (up m c) (down m c) (lastGain m c) k := by
  have e := outs_C m c ⟨n, hn⟩ (by simp only []; omega) h10
  simp only [] at e
  have hr : n % 11 = (n - 1) % 11 + 1 := by omega
  obtain ⟨i1, i2⟩ := sweep m c (n - 1) (by omega) (by omega) r R hR (by omega)
  rw [e, pay4_apply, out, show (fun j => iblk m c 5 ⟨n, hn⟩ (ix2 0 j)) = lastGain m c from
    funext fun j => blk5 m c ⟨n, hn⟩ j]
  congr 1
  funext j
  rw [step m c ⟨n, hn⟩ _ _ R hR r j i2 (by rw [i1 j, hr]), ← sum_term]
  simp only [h10]

/-- The result array, entry by entry. -/
theorem result (R : Fin 16384) (k : Fin 2048) :
    Value.G6 m c (ix2 R k) = out (hrow m c R.val R.isLt) (gain m c) (gate m c) (up m c) (down m c) (lastGain m c) k := by
  have hlt : 11 * (R.val / 1024) + 10 < cfg0.N := by
    show _ < 176
    omega
  have hp : Value.pt6Of (ix2 R k) = 11 * (R.val / 1024) + 10 := by
    have : k.val / 2048 = 0 := by omega
    simp [Value.pt6Of, Value.run6Of, ix2, this]
  have hl : Value.loc6Of (ix2 R k) = ix2 ⟨R.val % 1024, by omega⟩ k := by
    funext a
    match a with
    | ⟨0, _⟩ => rfl
    | ⟨1, _⟩ => exact Fin.ext (Nat.mod_eq_of_lt k.isLt)
  have key : Value.G6 m c (ix2 R k) = (outsAt0 m c (Value.pt6Of (ix2 R k)) (by rw [hp]; exact hlt)).1 (Value.loc6Of (ix2 R k)) := by
    unfold Value.G6
    rw [dif_pos (by rw [hp]; exact hlt), Value.outsAt0_sweep]
  rw [key, hl]
  exact last m c _ _ (by rw [hp]; omega) ⟨R.val % 1024, by omega⟩ R.val R.isLt (by rw [hp]; show _ = _ + R.val % 1024; omega) k

end Cert.FfnIdeal.Fold

end
-- ==== Proof.Ffn.RefRows.lean ====
/- The feed-forward reference read row by row: its composed term is the plain sums of the layer. -/
module

public import proofs.«01_k».proof.Proof.Ffn.Spec
public import proofs.«01_k».proof.Proof.Gen.FfnRefIdeal.Read
public import Idealize.ShloMosaic.Lib.Pointwise
public import Idealize.ShloMosaic.Lib.Pipeline.ValueKit

@[expose] public section

set_option maxRecDepth 16384

noncomputable section

namespace Cert.FfnRefIdeal.Rows

open Cert.FfnRefIdeal Cert.FfnRefIdeal.Read Idealize.ShloMosaic Cert.FfnSpec

variable (x0 : Vec Ideal S4x4096x2048 .f32) (x1 : Vec Ideal S2x2048 .f32) (x2 x3 : Vec Ideal S2x2048x5632 .f32)
  (x4 : Vec Ideal S2x5632x2048 .f32) (x5 : Vec Ideal S2048 .f32)

/-- The normalized input rows. -/
theorem norm_apply (b : Fin 4) (s : Fin 4096) (k : Fin 2048) :
    val_main_v14 x0 x1 (ix3 b s k) = rms (fun j => x0 (ix3 b s j)) (fun j => x1 (ix2 1 j)) k := by
  unfold rms
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]

/-- One hidden unit of one row. -/
theorem unit_apply (b : Fin 4) (s : Fin 4096) (f : Fin 5632) :
    val_main_v24 x0 x1 x2 x3 (ix3 b s f)
      = unit (rms (fun j => x0 (ix3 b s j)) (fun j => x1 (ix2 1 j))) (fun k f => x2 (ix3 1 k f))
          (fun k f => x3 (ix3 1 k f)) f := by
  unfold unit Ideal.logistic
  pointwise [val_main_v24, val_main_v23, val_main_v22, val_main_v21, val_main_v18, val_main_v17, val_main_v16,
    val_main_v15, val_main_call0_v0, val_main_call0_v1, val_main_call0_v2, val_main_call0_v3, val_main_call0_v4,
    val_main_call0_v5, val_main_call0_cst, val_main_call0_cst_0, norm_apply]

/-- The residual stream after the layer, before the last normalization. -/
theorem resid_apply (b : Fin 4) (s : Fin 4096) (k : Fin 2048) :
    val_main_v26 x0 x1 x2 x3 x4 (ix3 b s k)
      = x0 (ix3 b s k) + ∑ f : Fin 5632, unit (rms (fun j => x0 (ix3 b s j)) (fun j => x1 (ix2 1 j)))
          (fun k f => x2 (ix3 1 k f)) (fun k f => x3 (ix3 1 k f)) f * x4 (ix3 1 f k) := by
  pointwise [val_main_v26, val_main_v25, val_main_v20, val_main_v19, unit_apply]

/-- The reference's result at one entry. -/
theorem result_apply (r : Fin 16384) (k : Fin 2048) :
    val_main_v40 x0 x1 x2 x3 x4 x5 (ix2 r k)
      = out (fun j => x0 (ix3 ⟨r.val / 4096, by omega⟩ ⟨r.val % 4096, by omega⟩ j)) (fun j => x1 (ix2 1 j))
          (fun k f => x2 (ix3 1 k f)) (fun k f => x3 (ix3 1 k f)) (fun f k => x4 (ix3 1 f k)) (fun k => x5 (ix1 k)) k := by
  unfold out
  rw [rms]
  pointwise [val_main_v40, val_main_v39, val_main_v38, val_main_v37, val_main_v36, val_main_v35, val_main_v34,
    val_main_v33, val_main_v32, val_main_v31, val_main_v30, val_main_v29, val_main_v28, val_main_v27,
    val_main_cst_2, val_main_cst_3, val_main_cst_4, resid_apply]

end Cert.FfnRefIdeal.Rows

end
-- ==== Proof.Ffn.Claim.lean ====
/- The claims about the feed-forward layer: the kernel's, the ideal kernel's and the reference's frames, and that
   the ideal kernel computes the reference's function. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Ffn.Fold
public import proofs.«01_k».proof.Proof.Ffn.RefRows
public import Idealize.ShloMosaic.Lib.Claim
public import Idealize.ShloMosaic.Lib.Quiescent
public import Idealize.ShloMosaic.Adequacy
public import Idealize.ShloMosaic.Init

@[expose] public section

set_option maxRecDepth 16384

noncomputable section

namespace Cert.FfnClaim

open Idealize.ShloMosaic Idealize.ShloMosaic.TcCoe Idealize.SL.Sem

/-- The two programs' results are one function of equal arguments. -/
theorem results_eq (m : (ℓ : Loc Cert.FfnIdeal.nD Cert.FfnIdeal.τ Cert.FfnIdeal.sig) → Buf (Elt Ideal) ℓ)
    (c : Dev Cert.FfnIdeal.nD) :
    Cert.FfnRefIdeal.Read.val_main_v40 (F := Ideal) (m ((c : Thread Cert.FfnIdeal.nD Cert.FfnIdeal.τ).loc Cert.FfnIdeal.main_arg0))
      (m ((c : Thread Cert.FfnIdeal.nD Cert.FfnIdeal.τ).loc Cert.FfnIdeal.main_arg1)) (m ((c : Thread Cert.FfnIdeal.nD Cert.FfnIdeal.τ).loc Cert.FfnIdeal.main_arg2))
      (m ((c : Thread Cert.FfnIdeal.nD Cert.FfnIdeal.τ).loc Cert.FfnIdeal.main_arg3)) (m ((c : Thread Cert.FfnIdeal.nD Cert.FfnIdeal.τ).loc Cert.FfnIdeal.main_arg4))
      (m ((c : Thread Cert.FfnIdeal.nD Cert.FfnIdeal.τ).loc Cert.FfnIdeal.main_arg5)) = Cert.FfnIdeal.Value.G6 m c := by
  funext i
  obtain ⟨r, k, rfl⟩ : ∃ (r : Fin 16384) (k : Fin 2048), i = ix2 r k := ⟨i 0, i 1, eq_ix2 i⟩
  rw [Cert.FfnIdeal.Fold.result]
  exact Cert.FfnRefIdeal.Rows.result_apply _ _ _ _ _ _ r k

/-- The ideal kernel computes the reference's function. -/
theorem algebraic : Cert.algebraic_FfnIdeal_FfnRefIdeal := by
  pair_intro
  · run_from Cert.FfnIdeal.Value.run m g
  · hlo_run
    exact results_eq m c

/-- The kernel's frame. -/
theorem frame : Cert.quiescent_Ffn := fun m ρ _ => Cert.Ffn.Gen.frame m ρ

/-- The ideal kernel's frame. -/
theorem frame_ideal : Cert.quiescent_FfnIdeal := fun m ρ _ => Cert.FfnIdeal.Gen.frame m ρ

/-- The reference's frame. -/
theorem frame_ref : Cert.quiescent_FfnRefIdeal := fun m ρ _ =>
  (θ_run Cert.FfnRefIdeal.defs _ _).mono (fun r h => ⟨fun c => (h c).2, sem_eq_zero_of_no_sems rfl r.2⟩)
    (Cert.FfnRefIdeal.Value.run m ρ)

end Cert.FfnClaim

end
-- ==== Proof.Odd.Spec.lean ====
module

public import proofs.«01_k».proof.Proof.Ffn.Spec

@[expose] public section

noncomputable section

namespace Cert.OddSpec

open Idealize.ShloMosaic

/-- The comparison of the row's number with the column's, as an inequality. -/
theorem tri_bit : ∀ p s : Fin 128, IntOp.cmpi CmpIPredicate.sge (BitVec.ofNat 32 p.val) (BitVec.ofNat 32 s.val)
    = if s.val ≤ p.val then 1#1 else 0#1 := by decide +kernel

/-- The causal mask of the mixing weights. -/
theorem tri (p s : Fin 128) (a b : EReal) :
    Scalar.select (IntOp.cmpi CmpIPredicate.sge (BitVec.ofNat 32 p.val) (BitVec.ofNat 32 s.val)) a b
      = if s.val ≤ p.val then a else b := by
  rw [tri_bit]
  split <;> simp [Scalar.select]

/-- The GELU at a number, through the error function. -/
def gelu (z : EReal) : EReal :=
  z * (Ideal.erf (z * Ideal.ofBits .f32 0x3F3504F3#32) + 1) * Ideal.ofBits .f32 0x3F000000#32

/-- The mean of a row, the two halves summed one after the other. -/
def mean (v : Fin 2048 → EReal) : EReal :=
  (∑ j : Fin 1024, v ⟨j.val, by omega⟩ + ∑ j : Fin 1024, v ⟨1024 + j.val, by omega⟩) * Ideal.ofBits .f32 0x3A000000#32

/-- A row less its mean, over its deviation, scaled and shifted. -/
def ln (v g b : Fin 2048 → EReal) (f : Fin 2048) : EReal :=
  (v f - mean v) * Ideal.rsqrt (mean (fun j => (v j - mean v) * (v j - mean v)) + Ideal.ofBits .f32 0x358637BD#32) * g f + b f

/-- A gated number: `u` times the causal mixing of the 128 rows `y s`, plus the bias. -/
def gate (u : EReal) (w y : Fin 128 → EReal) (b : EReal) (p : Fin 128) : EReal :=
  u * (∑ s : Fin 128, (if s.val ≤ p.val then w s else 0) * y s + b)

/-- A gate of a row: the input projection's first half through the GELU. -/
def uRow (x g : Fin 2048 → EReal) (w : Fin 2048 → Fin 4096 → EReal) (f : Fin 2048) : EReal :=
  gelu (∑ j : Fin 2048, FfnSpec.rms x g j * w j ⟨f.val, by omega⟩)

/-- A value of a row: the input projection's second half through the GELU. -/
def vRow (x g : Fin 2048 → EReal) (w : Fin 2048 → Fin 4096 → EReal) (f : Fin 2048) : EReal :=
  gelu (∑ j : Fin 2048, FfnSpec.rms x g j * w j ⟨2048 + f.val, by omega⟩)

/-- The layer's result at row `R` and column `k`. -/
def out (x : Fin 16384 → Fin 2048 → EReal) (g : Fin 2048 → EReal) (w : Fin 2048 → Fin 4096 → EReal) (lg lb : Fin 2048 → EReal)
    (ws : Fin 8 → Fin 128 → Fin 128 → EReal) (bs : Fin 8 → Fin 128 → EReal) (wo : Fin 2048 → Fin 2048 → EReal)
    (R : Fin 16384) (k : Fin 2048) : EReal :=
  x R k + ∑ f : Fin 2048, gate (uRow (x R) g w f) (ws ⟨f.val / 256, by omega⟩ ⟨R.val % 128, by omega⟩)
    (fun s => ln (vRow (x ⟨128 * (R.val / 128) + s.val, by omega⟩) g w) lg lb f)
    (bs ⟨f.val / 256, by omega⟩ ⟨R.val % 128, by omega⟩) ⟨R.val % 128, by omega⟩ * wo f k

end Cert.OddSpec
end
end
-- ==== Proof.Odd.Kit.lean ====
module

public import proofs.«01_k».proof.Proof.Gen.OddIdeal.Frame

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that starts a row block (norm into the scratch). -/
abbrev isNorm (i : grid0.Coords) : Prop :=
  (Scalar.cmpi .ne (Scalar.extui (Scalar.cmpi .eq (BitVec.ofNat 32 (i 1).val) 0#32)) 0#32) = 1#1
/-- The branch of the two steps that make a half of the value part. -/
abbrev isVal (i : grid0.Coords) : Prop := k0_cond2 i = 1#1
/-- The branch of the first gating step. -/
abbrev isGate (i : grid0.Coords) : Prop :=
  (Scalar.cmpi .ne (Scalar.extui (Scalar.cmpi .eq (BitVec.ofNat 32 (i 1).val) 2#32)) 0#32) = 1#1
/-- The branch of the last step, with the second gating and the output product. -/
abbrev isOut (i : grid0.Coords) : Prop := k0_cond4 i = 1#1

/-- The norm step runs at the points divisible by four. -/
theorem isNorm_iff : ∀ t : Fin cfg0.N, isNorm (grid0.coords t) ↔ t.val % 4 = 0 :=
  (by decide +kernel : ∀ t : Fin grid0.N, isNorm (grid0.coords t) ↔ t.val % 4 = 0)
/-- The value steps run at the points with remainder at most one. -/
theorem isVal_iff : ∀ t : Fin cfg0.N, isVal (grid0.coords t) ↔ t.val % 4 ≤ 1 :=
  (by decide +kernel : ∀ t : Fin grid0.N, isVal (grid0.coords t) ↔ t.val % 4 ≤ 1)
/-- The first gating step runs at remainder two. -/
theorem isGate_iff : ∀ t : Fin cfg0.N, isGate (grid0.coords t) ↔ t.val % 4 = 2 :=
  (by decide +kernel : ∀ t : Fin grid0.N, isGate (grid0.coords t) ↔ t.val % 4 = 2)
/-- The last step runs at remainder three. -/
theorem isOut_iff : ∀ t : Fin cfg0.N, isOut (grid0.coords t) ↔ t.val % 4 = 3 :=
  (by decide +kernel : ∀ t : Fin grid0.N, isOut (grid0.coords t) ↔ t.val % 4 = 3)

/-- The output window is idle before the last step of a row block. -/
theorem out_idle : ∀ t : Fin cfg0.N, t.val % 4 ≠ 3 → cfg0.idle 8 (grid0.coords t) = true := by
  decide +kernel
/-- Nothing is written back before the last step of a row block. -/
theorem out_noFlush : ∀ t : Fin cfg0.N, t.val % 4 ≠ 3 → (cfg0.win 8).flush t = false := by
  decide +kernel
/-- The output window is live at the last step of a row block. -/
theorem out_live : ∀ t : Fin cfg0.N, t.val % 4 = 3 → cfg0.idle 8 (grid0.coords t) = false := by
  decide +kernel

/-- The staging memrefs of the nine windows at a point, and that each is whole. -/
abbrev st0 (t : Fin cfg0.N) : Memref sig .tc .vmem S512x2048 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1x2048x1024 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S1x2048 .f32 := win0_3.stage (cfg0.slots t 3)
abbrev wh3 (t : Fin cfg0.N) : (st3 t).IsWhole := hstage0_3 ((cfg0.slots t 3).cast nbuf0_3)
abbrev st4 (t : Fin cfg0.N) : Memref sig .tc .vmem S1x2048 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S8x128x128 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S128x8 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S1x2048x2048 .bf16 := win0_7.stage (cfg0.slots t 7)
abbrev wh7 (t : Fin cfg0.N) : (st7 t).IsWhole := hstage0_7 ((cfg0.slots t 7).cast nbuf0_7)
abbrev st8 (t : Fin cfg0.N) : Memref sig .tc .vmem S512x2048 .f32 := win0_8.stage (cfg0.slots t 8)
abbrev wh8 (t : Fin cfg0.N) : (st8 t).IsWhole := hstage0_8 ((cfg0.slots t 8).cast nbuf0_8)

/-- The four scratch buffers: normed rows, value part, row statistics, gated rows. -/
abbrev scHn : Memref sig .tc .vmem S512x2048 .bf16 := Memref.whole cc0_scratch0
abbrev scV : Memref sig .tc .vmem S2x512x1024 .f32 := Memref.whole cc0_scratch1
abbrev scSt : Memref sig .tc .vmem S2x512x1 .f32 := Memref.whole cc0_scratch2
abbrev scGa : Memref sig .tc .vmem S512x2048 .bf16 := Memref.whole cc0_scratch3

/-- What the region is handed beside the windows: the four scratch buffers at any contents. -/
theorem entry_eq (c : Dev nD) :
    (Pipeline.ΦA spec0 c : sProp 𝕄)
      = iprop(iprop((∃ d, owns (c : Thread nD τ) scHn fullShare d) ∗ (∃ d, owns (c : Thread nD τ) scV fullShare d)
          ∗ (∃ d, owns (c : Thread nD τ) scSt fullShare d) ∗ (∃ d, owns (c : Thread nD τ) scGa fullShare d))
        ∗ (∃ r, prngReg c r)) := by
  unfold Pipeline.ΦA; rw [scopedRest0_eq]; simp only [scHn, scV, scSt, scGa, owns_whole]; try rfl

end Cert.OddRun

end
-- ==== Proof.Odd.Runs.lean ====
module

public import proofs.«01_k».proof.Proof.Odd.Kit
public import proofs.«01_k».proof.Proof.Gen.OddIdeal.Skeleton

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x2048x1024 .bf16) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S8x128x128 .f32) (harg7 : arg7.IsWhole)
  (arg8 : Memref sig .tc .vmem S128x8 .f32) (harg8 : arg8.IsWhole)
  (arg9 : Memref sig .tc .vmem S1x2048x2048 .bf16) (harg9 : arg9.IsWhole)
  (arg10 : Memref sig .tc .vmem S512x2048 .f32) (harg10 : arg10.IsWhole)
  (arg11 : Memref sig .tc .vmem S512x2048 .bf16) (harg11 : arg11.IsWhole)
  (arg12 : Memref sig .tc .vmem S2x512x1024 .f32) (harg12 : arg12.IsWhole)
  (arg13 : Memref sig .tc .vmem S2x512x1 .f32) (harg13 : arg13.IsWhole)
  (arg14 : Memref sig .tc .vmem S512x2048 .bf16) (harg14 : arg14.IsWhole)
  (x0 : Vec F S512x2048 .f32) (x1 : Vec F S1x2048 .f32) (x2 : Vec F S1x2048x1024 .bf16) (x3 : Vec F S1x2048 .f32) (x4 : Vec F S1x2048 .f32) (x5 : Vec F S8x128x128 .f32) (x6 : Vec F S128x8 .f32) (x7 : Vec F S1x2048x2048 .bf16)

set_option maxHeartbeats 2000000 in
/-- At a first point the normed rows are stored whole and the first half of the value part is stored over what the scratch held. The pieces stored are what the run of the body finds; the body is run over whole memrefs, every input handed back as it was. -/
def runA (hc0 : isNorm i) (hc1 : isVal i) (hc2 : ¬isGate i) (hc3 : ¬isOut i) :
    Σ' (LS0 : List (View.Piece (Elt F) S512x2048 .bf16)), { LS1 : List (View.Piece (Elt F) S2x512x1024 .f32) //
      ∀ (xi8 : Vec F S512x2048 .f32) (xs1 : Vec F S2x512x1024 .f32) (xs2 : Vec F S2x512x1 .f32) (xs3 : Vec F S512x2048 .bf16) (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare xi8
          ∗ (∃ d, owns (c : Thread nD τ) arg11 fullShare d)
          ∗ owns (c : Thread nD τ) arg12 fullShare xs1
          ∗ owns (c : Thread nD τ) arg13 fullShare xs2
          ∗ owns (c : Thread nD τ) arg14 fullShare xs3
          ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare xi8
            ∗ (∃ f, arg11.view.loc (c : Thread nD τ) ↦[arg11.view.set]{fullShare} arg11.view.writes (Elt F) f LS0)
            ∗ (arg12.view.loc (c : Thread nD τ) ↦[arg12.view.set]{fullShare} arg12.view.writes (Elt F) (harg12.unread xs1) LS1)
            ∗ owns (c : Thread nD τ) arg13 fullShare xs2
            ∗ owns (c : Thread nD τ) arg14 fullShare xs3) -∗ K ⟨⟩))
        ⊢ wp frame (wpE (defs₀ (F := F)) Variants.none c none) E (cc0_odd_mixer i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi8 xs1 xs2 xs3 E K => ?run⟩
  case run =>
    simp only [cc0_odd_mixer_eq_skeleton]; unfold cc0_odd_mixer_skel
    simp only [k0_part1_eq_skeleton, k0_part2_eq_skeleton, k0_part3_eq_skeleton, k0_part4_eq_skeleton,
      k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%fs1, %hfs1, HS1⟩, ⟨%fs2, %hfs2, HS2⟩, ⟨%fs3, %hfs3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg12.eq_unread hfs1
    obtain rfl := harg13.eq_unread hfs2
    obtain rfl := harg14.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexact HS1
    isplitl [HS2]
    · iexists _; isplitr; · ipureintro; exact harg13.read_unread _
      iexact HS2
    iexists _; isplitr; · ipureintro; exact harg14.read_unread _
    iexact HS3

set_option maxHeartbeats 2000000 in
/-- At a second point the other half of the value part is stored. The pieces stored are what the run of the body finds; the body is run over whole memrefs, every input handed back as it was. -/
def runB (hc0 : ¬isNorm i) (hc1 : isVal i) (hc2 : ¬isGate i) (hc3 : ¬isOut i)
    (xs0 : Vec F S512x2048 .bf16) :
    { LS1 : List (View.Piece (Elt F) S2x512x1024 .f32) //
      ∀ (xi8 : Vec F S512x2048 .f32) (xs1 : Vec F S2x512x1024 .f32) (xs2 : Vec F S2x512x1 .f32) (xs3 : Vec F S512x2048 .bf16) (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare xi8
          ∗ owns (c : Thread nD τ) arg11 fullShare xs0
          ∗ owns (c : Thread nD τ) arg12 fullShare xs1
          ∗ owns (c : Thread nD τ) arg13 fullShare xs2
          ∗ owns (c : Thread nD τ) arg14 fullShare xs3
          ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare xi8
            ∗ owns (c : Thread nD τ) arg11 fullShare xs0
            ∗ (arg12.view.loc (c : Thread nD τ) ↦[arg12.view.set]{fullShare} arg12.view.writes (Elt F) (harg12.unread xs1) LS1)
            ∗ owns (c : Thread nD τ) arg13 fullShare xs2
            ∗ owns (c : Thread nD τ) arg14 fullShare xs3) -∗ K ⟨⟩))
        ⊢ wp frame (wpE (defs₀ (F := F)) Variants.none c none) E (cc0_odd_mixer i arg2 harg2 arg3 harg3 arg4 harg4 arg5 harg5 arg6 harg6 arg7 harg7 arg8 harg8 arg9 harg9 arg10 harg10 arg11 harg11 arg12 harg12 arg13 harg13 arg14 harg14) K } := by
  refine ⟨?_, fun xi8 xs1 xs2 xs3 E K => ?run⟩
  case run =>
    simp only [cc0_odd_mixer_eq_skeleton]; unfold cc0_odd_mixer_skel
    simp only [k0_part1_eq_skeleton, k0_part2_eq_skeleton, k0_part3_eq_skeleton, k0_part4_eq_skeleton,
      k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hfs0
    obtain rfl := harg12.eq_unread hfs1
    obtain rfl := harg13.eq_unread hfs2
    obtain rfl := harg14.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; isplitr; · ipureintro; exact harg11.read_unread _
      iexact HS0
    isplitl [HS1]; · iexact HS1
    isplitl [HS2]
    · iexists _; isplitr; · ipureintro; exact harg13.read_unread _
      iexact HS2
    iexists _; isplitr; · ipureintro; exact harg14.read_unread _
    iexact HS3

set_option maxHeartbeats 2000000 in
/-- At a third point the row statistics are stored and the first half of the gated rows. The pieces stored are what the run of the body finds; the body is run over whole memrefs, every input handed back as it was. -/
def runC (hc0 : ¬isNorm i) (hc1 : ¬isVal i) (hc2 : isGate i) (hc3 : ¬isOut i)
    (xs0 : Vec F S512x2048 .bf16) (xs1 : Vec F S2x512x1024 .f32) :
    Σ' (LS2 : List (View.Piece (Elt F) S2x512x1 .f32)), { LS3 : List (View.Piece (Elt F) S512x2048 .bf16) //
      ∀ (xi8 : Vec F S512x2048 .f32) (xs3 : Vec F S512x2048 .bf16) (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare xi8
          ∗ owns (c : Thread nD τ) arg11 fullShare xs0
          ∗ owns (c : Thread nD τ) arg12 fullShare xs1
          ∗ (∃ d, owns (c : Thread nD τ) arg13 fullShare d)
          ∗ owns (c : Thread nD τ) arg14 fullShare xs3
          ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare xi8
            ∗ owns (c : Thread nD τ) arg11 fullShare xs0
            ∗ owns (c : Thread nD τ) arg12 fullShare xs1
            ∗ (∃ f, arg13.view.loc (c : Thread nD τ) ↦[arg13.view.set]{fullShare} arg13.view.writes (Elt F) f LS2)
            ∗ (arg14.view.loc (c : Thread nD τ) ↦[arg14.view.set]{fullShare} arg14.view.writes (Elt F) (harg14.unread xs3) LS3)) -∗ K ⟨⟩))
        ⊢ wp frame (wpE (defs₀ (F := F)) Variants.none c none) E (cc0_odd_mixer i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi8 xs3 E K => ?run⟩
  case run =>
    simp only [cc0_odd_mixer_eq_skeleton]; unfold cc0_odd_mixer_skel
    simp only [k0_part1_eq_skeleton, k0_part2_eq_skeleton, k0_part3_eq_skeleton, k0_part4_eq_skeleton,
      k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%ds2, %fs2, -, HS2⟩, ⟨%fs3, %hfs3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hfs0
    obtain rfl := harg12.eq_unread hfs1
    obtain rfl := harg14.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; isplitr; · ipureintro; exact harg11.read_unread _
      iexact HS0
    isplitl [HS1]
    · iexists _; isplitr; · ipureintro; exact harg12.read_unread _
      iexact HS1
    isplitl [HS2]; · iexists _; iexact HS2
    iexact HS3

set_option maxHeartbeats 2000000 in
/-- At a fourth point the second half of the gated rows is stored and then the output block. The pieces stored are what the run of the body finds; the body is run over whole memrefs, every input handed back as it was. -/
def runD (hc0 : ¬isNorm i) (hc1 : ¬isVal i) (hc2 : ¬isGate i) (hc3 : isOut i)
    (xs0 : Vec F S512x2048 .bf16) (xs1 : Vec F S2x512x1024 .f32) (xs2 : Vec F S2x512x1 .f32) (xs3 : Vec F S512x2048 .bf16) :
    Σ' (L8 : List (View.Piece (Elt F) S512x2048 .f32)), { LS3 : List (View.Piece (Elt F) S512x2048 .bf16) //
      ∀  (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ (∃ d, owns (c : Thread nD τ) arg10 fullShare d)
          ∗ owns (c : Thread nD τ) arg11 fullShare xs0
          ∗ owns (c : Thread nD τ) arg12 fullShare xs1
          ∗ owns (c : Thread nD τ) arg13 fullShare xs2
          ∗ owns (c : Thread nD τ) arg14 fullShare xs3
          ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ f, arg10.view.loc (c : Thread nD τ) ↦[arg10.view.set]{fullShare} arg10.view.writes (Elt F) f L8)
            ∗ owns (c : Thread nD τ) arg11 fullShare xs0
            ∗ owns (c : Thread nD τ) arg12 fullShare xs1
            ∗ owns (c : Thread nD τ) arg13 fullShare xs2
            ∗ (arg14.view.loc (c : Thread nD τ) ↦[arg14.view.set]{fullShare} arg14.view.writes (Elt F) (harg14.unread xs3) LS3)) -∗ K ⟨⟩))
        ⊢ wp frame (wpE (defs₀ (F := F)) Variants.none c none) E (cc0_odd_mixer i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun  E K => ?run⟩
  case run =>
    simp only [cc0_odd_mixer_eq_skeleton]; unfold cc0_odd_mixer_skel
    simp only [k0_part1_eq_skeleton, k0_part2_eq_skeleton, k0_part3_eq_skeleton, k0_part4_eq_skeleton,
      k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg11.eq_unread hfs0
    obtain rfl := harg12.eq_unread hfs1
    obtain rfl := harg13.eq_unread hfs2
    obtain rfl := harg14.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    iexact HS3

end Cert.OddRun

end
-- ==== Proof.Odd.Data.lean ====
module

public import proofs.«01_k».proof.Proof.Odd.Runs
public import Idealize.ShloMosaic.Lib.HeldBySlice

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (P : Fin 32)

/-- The four points of row block `P`. -/
abbrev pt0 (P : Fin 32) : Fin cfg0.N := ⟨4 * P.val, lt_of_lt_of_eq (by omega : 4 * P.val < 128) N_0.symm⟩
abbrev pt1 (P : Fin 32) : Fin cfg0.N := ⟨4 * P.val + 1, lt_of_lt_of_eq (by omega : 4 * P.val + 1 < 128) N_0.symm⟩
abbrev pt2 (P : Fin 32) : Fin cfg0.N := ⟨4 * P.val + 2, lt_of_lt_of_eq (by omega : 4 * P.val + 2 < 128) N_0.symm⟩
abbrev pt3 (P : Fin 32) : Fin cfg0.N := ⟨4 * P.val + 3, lt_of_lt_of_eq (by omega : 4 * P.val + 3 < 128) N_0.symm⟩

/-- The branches taken at point 0 of a row block. -/
theorem br0 : isNorm (grid0.coords (pt0 P)) ∧ isVal (grid0.coords (pt0 P)) ∧ ¬isGate (grid0.coords (pt0 P)) ∧ ¬isOut (grid0.coords (pt0 P)) :=
  ⟨(isNorm_iff _).mpr (by dsimp only; omega), (isVal_iff _).mpr (by dsimp only; omega), fun h => absurd ((isGate_iff _).mp h) (by dsimp only; omega), fun h => absurd ((isOut_iff _).mp h) (by dsimp only; omega)⟩

/-- The branches taken at point 1 of a row block. -/
theorem br1 : ¬isNorm (grid0.coords (pt1 P)) ∧ isVal (grid0.coords (pt1 P)) ∧ ¬isGate (grid0.coords (pt1 P)) ∧ ¬isOut (grid0.coords (pt1 P)) :=
  ⟨fun h => absurd ((isNorm_iff _).mp h) (by dsimp only; omega), (isVal_iff _).mpr (by dsimp only; omega), fun h => absurd ((isGate_iff _).mp h) (by dsimp only; omega), fun h => absurd ((isOut_iff _).mp h) (by dsimp only; omega)⟩

/-- The branches taken at point 2 of a row block. -/
theorem br2 : ¬isNorm (grid0.coords (pt2 P)) ∧ ¬isVal (grid0.coords (pt2 P)) ∧ isGate (grid0.coords (pt2 P)) ∧ ¬isOut (grid0.coords (pt2 P)) :=
  ⟨fun h => absurd ((isNorm_iff _).mp h) (by dsimp only; omega), fun h => absurd ((isVal_iff _).mp h) (by dsimp only; omega), (isGate_iff _).mpr (by dsimp only; omega), fun h => absurd ((isOut_iff _).mp h) (by dsimp only; omega)⟩

/-- The branches taken at point 3 of a row block. -/
theorem br3 : ¬isNorm (grid0.coords (pt3 P)) ∧ ¬isVal (grid0.coords (pt3 P)) ∧ ¬isGate (grid0.coords (pt3 P)) ∧ isOut (grid0.coords (pt3 P)) :=
  ⟨fun h => absurd ((isNorm_iff _).mp h) (by dsimp only; omega), fun h => absurd ((isVal_iff _).mp h) (by dsimp only; omega), fun h => absurd ((isGate_iff _).mp h) (by dsimp only; omega), (isOut_iff _).mpr (by dsimp only; omega)⟩

/-- The first point's run. -/
abbrev rA := runA c (grid0.coords (pt0 P)) (st0 (pt0 P)) (wh0 (pt0 P)) (st1 (pt0 P)) (wh1 (pt0 P)) (st2 (pt0 P)) (wh2 (pt0 P)) (st3 (pt0 P)) (wh3 (pt0 P)) (st4 (pt0 P)) (wh4 (pt0 P)) (st5 (pt0 P)) (wh5 (pt0 P)) (st6 (pt0 P)) (wh6 (pt0 P)) (st7 (pt0 P)) (wh7 (pt0 P)) (st8 (pt0 P)) (wh8 (pt0 P)) scHn (Memref.isWhole_whole _) scV (Memref.isWhole_whole _) scSt (Memref.isWhole_whole _) scGa (Memref.isWhole_whole _)
    (iblk m c 0 (pt0 P)) (iblk m c 1 (pt0 P)) (iblk m c 2 (pt0 P)) (iblk m c 3 (pt0 P)) (iblk m c 4 (pt0 P)) (iblk m c 5 (pt0 P)) (iblk m c 6 (pt0 P)) (iblk m c 7 (pt0 P))
    (br0 P).1 (br0 P).2.1 (br0 P).2.2.1 (br0 P).2.2.2

/-- The normed rows it leaves. -/
def hn : Vec F S512x2048 .bf16 := scHn.view.read (Elt F) (scHn.view.writes (Elt F) scHn.view.junk (rA m c P).1)

/-- The first half of the value part, as stored. -/
def lv0 : List (View.Piece (Elt F) S2x512x1024 .f32) :=
  [⟨Rect.unit (s := S2x512x1024) ![0, 0, 0] ![1, 512, 1024] inb_S2x512x1024_S1x512x1024_0_0_0,
    k0_pay2 (runA.sl.v12 c (st0 (pt0 P)) (wh0 (pt0 P)) (st1 (pt0 P)) (wh1 (pt0 P)) scHn (iblk m c 0 (pt0 P)) (iblk m c 1 (pt0 P)))
      (View.readAt (Elt F) (st2 (pt0 P)).view
        (Rect.unit (s := S1x2048x1024) ![0, 0, 0] ![1, 2048, 1024] inb_S1x2048x1024_S1x2048x1024_0_0_0).toLoadRect
        ((wh2 (pt0 P)).unread (iblk m c 2 (pt0 P))))⟩]

/-- A one-piece list is the same at equal offsets. -/
theorem piece_off {off off' : Fin 3 → ℕ} (h : off = off') (p : ∀ a, off a + (![1, 512, 1024] : Fin 3 → ℕ) a ≤ S2x512x1024.size a)
    (p' : ∀ a, off' a + (![1, 512, 1024] : Fin 3 → ℕ) a ≤ S2x512x1024.size a) (w : (⟨3, ![1, 512, 1024]⟩ : Shape).Idx → Elt F .f32) :
    ([⟨Rect.unit (s := S2x512x1024) off ![1, 512, 1024] p, w⟩] : List (View.Piece (Elt F) S2x512x1024 .f32))
      = [⟨Rect.unit (s := S2x512x1024) off' ![1, 512, 1024] p', w⟩] := by
  subst h; rfl

/-- The slice index of the value part is the step number. -/
theorem off_pt0 : ∀ P : Fin 32, k0_off1 (grid0.coords (pt0 P)) = ![0, 0, 0] := by decide +kernel
theorem off_pt1 : ∀ P : Fin 32, k0_off1 (grid0.coords (pt1 P)) = ![1, 0, 0] := by decide +kernel

/-- The pieces of the first point's value store. -/
theorem rA_v : (rA m c P).2.1 = lv0 m c P := piece_off (off_pt0 P) _ _ _

/-- The second point's run. -/
abbrev rB := runB c (grid0.coords (pt1 P)) (st0 (pt1 P)) (wh0 (pt1 P)) (st1 (pt1 P)) (wh1 (pt1 P)) (st2 (pt1 P)) (wh2 (pt1 P)) (st3 (pt1 P)) (wh3 (pt1 P)) (st4 (pt1 P)) (wh4 (pt1 P)) (st5 (pt1 P)) (wh5 (pt1 P)) (st6 (pt1 P)) (wh6 (pt1 P)) (st7 (pt1 P)) (wh7 (pt1 P)) (st8 (pt1 P)) (wh8 (pt1 P)) scHn (Memref.isWhole_whole _) scV (Memref.isWhole_whole _) scSt (Memref.isWhole_whole _) scGa (Memref.isWhole_whole _)
    (iblk m c 0 (pt1 P)) (iblk m c 1 (pt1 P)) (iblk m c 2 (pt1 P)) (iblk m c 3 (pt1 P)) (iblk m c 4 (pt1 P)) (iblk m c 5 (pt1 P)) (iblk m c 6 (pt1 P)) (iblk m c 7 (pt1 P))
    (br1 P).1 (br1 P).2.1 (br1 P).2.2.1 (br1 P).2.2.2 (hn m c P)

/-- The second half of the value part, as stored. -/
def lv1 : List (View.Piece (Elt F) S2x512x1024 .f32) :=
  [⟨Rect.unit (s := S2x512x1024) ![1, 0, 0] ![1, 512, 1024] inb_S2x512x1024_S1x512x1024_1_0_0,
    k0_pay2 (View.readAt (Elt F) scHn.view (Rect.unit (s := S512x2048) ![0, 0] ![512, 2048] inb_S512x2048_S512x2048_0_0).toLoadRect
        ((Memref.isWhole_whole _ : scHn.IsWhole).unread (hn m c P)))
      (View.readAt (Elt F) (st2 (pt1 P)).view
        (Rect.unit (s := S1x2048x1024) ![0, 0, 0] ![1, 2048, 1024] inb_S1x2048x1024_S1x2048x1024_0_0_0).toLoadRect
        ((wh2 (pt1 P)).unread (iblk m c 2 (pt1 P))))⟩]

/-- The pieces of the second point's value store. -/
theorem rB_v : (rB m c P).1 = lv1 m c P := piece_off (off_pt1 P) _ _ _

/-- The whole value part. -/
def vv : Vec F S2x512x1024 .f32 :=
  scV.view.read (Elt F) (scV.view.writes (Elt F) scV.view.junk (lv1 m c P ++ lv0 m c P))

/-- The third point's run. -/
abbrev rC := runC c (grid0.coords (pt2 P)) (st0 (pt2 P)) (wh0 (pt2 P)) (st1 (pt2 P)) (wh1 (pt2 P)) (st2 (pt2 P)) (wh2 (pt2 P)) (st3 (pt2 P)) (wh3 (pt2 P)) (st4 (pt2 P)) (wh4 (pt2 P)) (st5 (pt2 P)) (wh5 (pt2 P)) (st6 (pt2 P)) (wh6 (pt2 P)) (st7 (pt2 P)) (wh7 (pt2 P)) (st8 (pt2 P)) (wh8 (pt2 P)) scHn (Memref.isWhole_whole _) scV (Memref.isWhole_whole _) scSt (Memref.isWhole_whole _) scGa (Memref.isWhole_whole _)
    (iblk m c 0 (pt2 P)) (iblk m c 1 (pt2 P)) (iblk m c 2 (pt2 P)) (iblk m c 3 (pt2 P)) (iblk m c 4 (pt2 P)) (iblk m c 5 (pt2 P)) (iblk m c 6 (pt2 P)) (iblk m c 7 (pt2 P))
    (br2 P).1 (br2 P).2.1 (br2 P).2.2.1 (br2 P).2.2.2 (hn m c P) (vv m c P)

/-- The row statistics. -/
def stat : Vec F S2x512x1 .f32 := scSt.view.read (Elt F) (scSt.view.writes (Elt F) scSt.view.junk (rC m c P).1)

/-- What the first gating leaves over contents `f`. -/
def ga (f : scGa.view.ty.Contents (Elt F)) : Vec F S512x2048 .bf16 :=
  scGa.view.read (Elt F) (scGa.view.writes (Elt F) f (rC m c P).2.1)

/-- The fourth point's run, over gated rows `g`. -/
abbrev rD (g : Vec F S512x2048 .bf16) := runD c (grid0.coords (pt3 P)) (st0 (pt3 P)) (wh0 (pt3 P)) (st1 (pt3 P)) (wh1 (pt3 P)) (st2 (pt3 P)) (wh2 (pt3 P)) (st3 (pt3 P)) (wh3 (pt3 P)) (st4 (pt3 P)) (wh4 (pt3 P)) (st5 (pt3 P)) (wh5 (pt3 P)) (st6 (pt3 P)) (wh6 (pt3 P)) (st7 (pt3 P)) (wh7 (pt3 P)) (st8 (pt3 P)) (wh8 (pt3 P)) scHn (Memref.isWhole_whole _) scV (Memref.isWhole_whole _) scSt (Memref.isWhole_whole _) scGa (Memref.isWhole_whole _)
    (iblk m c 0 (pt3 P)) (iblk m c 1 (pt3 P)) (iblk m c 2 (pt3 P)) (iblk m c 3 (pt3 P)) (iblk m c 4 (pt3 P)) (iblk m c 5 (pt3 P)) (iblk m c 6 (pt3 P)) (iblk m c 7 (pt3 P))
    (br3 P).1 (br3 P).2.1 (br3 P).2.2.1 (br3 P).2.2.2 (hn m c P) (vv m c P) (stat m c P) g

/-- The output block. -/
def outB : Vec F S512x2048 .f32 :=
  (st8 (pt3 P)).view.read (Elt F) ((st8 (pt3 P)).view.writes (Elt F) (st8 (pt3 P)).view.junk
    (rD m c P (ga m c P scGa.view.junk)).1)

/-- The normed rows are stored whole. -/
theorem cov_hn (y : S512x2048.Idx) : ∃ pc ∈ (rA m c P).1, y ∈ pc.1.set :=
  View.cover_of_tiledL (rA m c P).1 S512x2048.size (by sl_kernel_rfl) y
/-- The two halves cover the value part. -/
theorem cov_v (y : S2x512x1024.Idx) : ∃ pc ∈ lv1 m c P ++ lv0 m c P, y ∈ pc.1.set :=
  View.cover_of_tiledL (lv1 m c P ++ lv0 m c P) S1x512x1024.size (by sl_kernel_rfl) y
/-- The two columns cover the row statistics. -/
theorem cov_st (y : S2x512x1.Idx) : ∃ pc ∈ (rC m c P).1, y ∈ pc.1.set :=
  View.cover_of_tiledL (rC m c P).1 S1x512x1.size (by sl_kernel_rfl) y
/-- The thirty-two tiles cover the gated rows. -/
theorem cov_ga (g : Vec F S512x2048 .bf16) (y : S512x2048.Idx) : ∃ pc ∈ (rD m c P g).2.1 ++ (rC m c P).2.1, y ∈ pc.1.set :=
  View.cover_of_tiledL ((rD m c P g).2.1 ++ (rC m c P).2.1) S128x256.size (by sl_kernel_rfl) y
/-- The output block is stored whole. -/
theorem cov_out (g : Vec F S512x2048 .bf16) (y : S512x2048.Idx) : ∃ pc ∈ (rD m c P g).1, y ∈ pc.1.set :=
  View.cover_of_tiledL (rD m c P g).1 S512x2048.size (by sl_kernel_rfl) y

/-! ## What holds between points -/

/-- What the scratch buffers hold before point `n`, as far as later points need it. -/
def Inv (n : ℕ) (s0 : Vec F S512x2048 .bf16) (s1 : Vec F S2x512x1024 .f32) (s2 : Vec F S2x512x1 .f32) (s3 : Vec F S512x2048 .bf16) : Prop :=
  ∀ P : Fin 32,
    (n = 4 * P.val + 1 → s0 = hn m c P ∧ ∃ v, s1 = scV.view.read (Elt F) (scV.view.writes (Elt F) v (lv0 m c P)))
    ∧ (n = 4 * P.val + 2 → s0 = hn m c P ∧ s1 = vv m c P)
    ∧ (n = 4 * P.val + 3 → s0 = hn m c P ∧ s1 = vv m c P ∧ s2 = stat m c P ∧ ∃ f, s3 = ga m c P f)

/-- The invariant before point `n`. -/
def PhiS (n : ℕ) : sProp 𝕄 :=
  iprop(∃ s0 s1 s2 s3, ⌜Inv m c n s0 s1 s2 s3⌝ ∗ (owns (c : Thread nD τ) scHn fullShare s0 ∗ owns (c : Thread nD τ) scV fullShare s1
    ∗ owns (c : Thread nD τ) scSt fullShare s2 ∗ owns (c : Thread nD τ) scGa fullShare s3) ∗ (∃ r, prngReg c r))

/-- Nothing is needed where a row block starts. -/
theorem inv0 (n : ℕ) (h : n % 4 = 0) (s0 s1 s2 s3) : Inv m c n s0 s1 s2 s3 := fun P =>
  ⟨fun e => by omega, fun e => by omega, fun e => by omega⟩
/-- After the first point of a row block. -/
theorem inv1 (v s2 s3) : Inv m c ((pt0 P).val + 1) (hn m c P) (scV.view.read (Elt F) (scV.view.writes (Elt F) v (lv0 m c P))) s2 s3 := fun Q =>
  ⟨fun e => by dsimp only at e; obtain rfl : P = Q := Fin.ext (by omega); exact ⟨rfl, v, rfl⟩, fun e => by dsimp only at e; omega, fun e => by dsimp only at e; omega⟩
/-- After the second. -/
theorem inv2 (s2 s3) : Inv m c ((pt1 P).val + 1) (hn m c P) (vv m c P) s2 s3 := fun Q =>
  ⟨fun e => by dsimp only at e; omega, fun e => by dsimp only at e; obtain rfl : P = Q := Fin.ext (by omega); exact ⟨rfl, rfl⟩, fun e => by dsimp only at e; omega⟩
/-- After the third. -/
theorem inv3 (f) : Inv m c ((pt2 P).val + 1) (hn m c P) (vv m c P) (stat m c P) (ga m c P f) := fun Q =>
  ⟨fun e => by dsimp only at e; omega, fun e => by dsimp only at e; omega, fun e => by dsimp only at e; obtain rfl : P = Q := Fin.ext (by omega); exact ⟨rfl, rfl, rfl, f, rfl⟩⟩
/-- After the fourth nothing is needed. -/
theorem inv4 (s0 s1 s2 s3) : Inv m c ((pt3 P).val + 1) s0 s1 s2 s3 := inv0 m c _ (by dsimp only; omega) _ _ _ _
/-- Before the second point. -/
theorem at1 {s0 s1 s2 s3} (h : Inv m c (pt1 P).val s0 s1 s2 s3) : s0 = hn m c P ∧ ∃ v, s1 = scV.view.read (Elt F) (scV.view.writes (Elt F) v (lv0 m c P)) :=
  (h P).1 rfl
/-- Before the third. -/
theorem at2 {s0 s1 s2 s3} (h : Inv m c (pt2 P).val s0 s1 s2 s3) : s0 = hn m c P ∧ s1 = vv m c P := (h P).2.1 rfl
/-- Before the fourth. -/
theorem at3 {s0 s1 s2 s3} (h : Inv m c (pt3 P).val s0 s1 s2 s3) : s0 = hn m c P ∧ s1 = vv m c P ∧ s2 = stat m c P ∧ ∃ f, s3 = ga m c P f := (h P).2.2 rfl

/-- The proof data of the pipeline: every input at its block, the output at the block of its row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outB m c ⟨t.val / 4, by have := lt_of_lt_of_eq t.isLt (show cfg0.N = 128 from N_0); omega⟩
  Φ t := PhiS m c t.val
  q _ := fullShare
  owed _ := 0

/-- The arrays are the launch's. -/
theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = iblk m c 6 t := by dsimp only [dats]
theorem after7 (t : Fin cfg0.N) : (dats m 0 c).after 7 t = iblk m c 7 t := by dsimp only [dats]
/-- After the last point of a row block the output holds its block. -/
theorem after8 : (dats m 0 c).after 8 (pt3 P) = outB m c P := by
  dsimp only [dats]; exact congrArg (outB m c) (Fin.ext (by dsimp only; omega))
theorem before0 (t : Fin cfg0.N) (d) : (dats m 0 c).before 0 t d = iblk m c 0 t :=
  before0_0_of m (dats m 0 c) (A_eq m c 0) (after0 m c) t d
theorem before1 (t : Fin cfg0.N) (d) : (dats m 0 c).before 1 t d = iblk m c 1 t :=
  before0_1_of m (dats m 0 c) (A_eq m c 1) (after1 m c) t d
theorem before2 (t : Fin cfg0.N) (d) : (dats m 0 c).before 2 t d = iblk m c 2 t :=
  before0_2_of m (dats m 0 c) (A_eq m c 2) (after2 m c) t d
theorem before3 (t : Fin cfg0.N) (d) : (dats m 0 c).before 3 t d = iblk m c 3 t :=
  before0_3_of m (dats m 0 c) (A_eq m c 3) (after3 m c) t d
theorem before4 (t : Fin cfg0.N) (d) : (dats m 0 c).before 4 t d = iblk m c 4 t :=
  before0_4_of m (dats m 0 c) (A_eq m c 4) (after4 m c) t d
theorem before5 (t : Fin cfg0.N) (d) : (dats m 0 c).before 5 t d = iblk m c 5 t :=
  before0_5_of m (dats m 0 c) (A_eq m c 5) (after5 m c) t d
theorem before6 (t : Fin cfg0.N) (d) : (dats m 0 c).before 6 t d = iblk m c 6 t :=
  before0_6_of m (dats m 0 c) (A_eq m c 6) (after6 m c) t d
theorem before7 (t : Fin cfg0.N) (d) : (dats m 0 c).before 7 t d = iblk m c 7 t :=
  before0_7_of m (dats m 0 c) (A_eq m c 7) (after7 m c) t d

end Cert.OddRun

end
-- ==== Proof.Odd.Indep.lean ====
module

public import proofs.«01_k».proof.Proof.Odd.Data
public import Idealize.ShloMosaic.Lib.HeldBySlice

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (P : Fin 32)

/-- The tiles the last point stores into the gated rows. -/
def lg1 : List (View.Piece (Elt F) S512x2048 .bf16) :=
  runD.sl.HS3_16 c (st2 (pt3 P)) (wh2 (pt3 P)) (st3 (pt3 P)) (wh3 (pt3 P)) (st4 (pt3 P)) (wh4 (pt3 P)) (st5 (pt3 P)) (wh5 (pt3 P)) (st6 (pt3 P)) (wh6 (pt3 P)) scHn (Memref.isWhole_whole _) scV (Memref.isWhole_whole _) scSt (Memref.isWhole_whole _) (iblk m c 2 (pt3 P)) (iblk m c 3 (pt3 P)) (iblk m c 4 (pt3 P)) (iblk m c 5 (pt3 P)) (iblk m c 6 (pt3 P)) (hn m c P) (vv m c P) (stat m c P)

/-- The gated rows the last point reads back. -/
def gin (g : Vec F S512x2048 .bf16) : (Rect.unit (s := S512x2048) ![0, 0] ![512, 2048] inb_S512x2048_S512x2048_0_0).shape.Idx → Elt F .bf16 :=
  scGa.view.readAt (Elt F) (Rect.unit (s := S512x2048) ![0, 0] ![512, 2048] inb_S512x2048_S512x2048_0_0).toLoadRect
    (scGa.view.writes (Elt F) ((Memref.isWhole_whole _ : scGa.IsWhole).unread g) (lg1 m c P))

/-- The tiles do not depend on what the gated rows held. -/
theorem rD_ga (g : Vec F S512x2048 .bf16) : (rD m c P g).2.1 = lg1 m c P := rfl

/-- The output's one piece. -/
theorem rD_out (g : Vec F S512x2048 .bf16) : (rD m c P g).1 =
    [⟨Rect.unit (s := S512x2048) ![0, 0] ![512, 2048] inb_S512x2048_S512x2048_0_0,
      k0_pay8 (View.readAt (Elt F) (st0 (pt3 P)).view (Rect.unit (s := S512x2048) ![0, 0] ![512, 2048] inb_S512x2048_S512x2048_0_0).toLoadRect
          ((wh0 (pt3 P)).unread (iblk m c 0 (pt3 P)))) (gin m c P g)
        (View.readAt (Elt F) (st7 (pt3 P)).view
          (Rect.unit (s := S1x2048x2048) ![0, 0, 0] ![1, 2048, 2048] inb_S1x2048x2048_S1x2048x2048_0_0_0).toLoadRect
          ((wh7 (pt3 P)).unread (iblk m c 7 (pt3 P))))⟩] := rfl

/-- Over what the third point left, the gated rows read back are those of the tiles alone. -/
theorem gin_ga (f f' : scGa.view.ty.Contents (Elt F)) : gin m c P (ga m c P f)
    = scGa.view.readAt (Elt F) (Rect.unit (s := S512x2048) ![0, 0] ![512, 2048] inb_S512x2048_S512x2048_0_0).toLoadRect
      (scGa.view.writes (Elt F) f' (lg1 m c P ++ (rC m c P).2.1)) := by
  have hc : ∀ y : S512x2048.Idx, ∃ pc ∈ lg1 m c P ++ (rC m c P).2.1, y ∈ pc.1.set := fun y => by
    have := cov_ga m c P (ga m c P f) y
    rwa [rD_ga] at this
  unfold gin ga
  rw [(Memref.isWhole_whole _ : scGa.IsWhole).unread_read, ← View.writes_append]
  exact View.readAt_writes_eq_of_cover _ f f' _ _ fun j => hc _

/-- What the last point stores does not depend on what the gated rows held before the row block. -/
theorem out_indep (f f' : scGa.view.ty.Contents (Elt F)) :
    (rD m c P (ga m c P f)).1 = (rD m c P (ga m c P f')).1 := by
  rw [rD_out, rD_out, gin_ga m c P f scGa.view.junk, gin_ga m c P f' scGa.view.junk]

/-- The normed rows after the first point. -/
theorem hn_of (f) (L : List (View.Piece (Elt F) S512x2048 .bf16)) (h : L = (rA m c P).1) :
    scHn.view.read (Elt F) (scHn.view.writes (Elt F) f L) = hn m c P := by
  subst h; unfold hn; exact View.read_writes_of_cover _ _ _ _ _ (cov_hn m c P)
/-- The value part after the first point. -/
theorem v0_of (f) (L : List (View.Piece (Elt F) S2x512x1024 .f32)) (h : L = (rA m c P).2.1) :
    scV.view.read (Elt F) (scV.view.writes (Elt F) f L) = scV.view.read (Elt F) (scV.view.writes (Elt F) f (lv0 m c P)) := by
  rw [h, rA_v]
/-- The value part after the second. -/
theorem v1_of (v) (L : List (View.Piece (Elt F) S2x512x1024 .f32)) (h : L = (rB m c P).1) :
    scV.view.read (Elt F) (scV.view.writes (Elt F) ((Memref.isWhole_whole _ : scV.IsWhole).unread
      (scV.view.read (Elt F) (scV.view.writes (Elt F) v (lv0 m c P)))) L) = vv m c P := by
  rw [h, rB_v, (Memref.isWhole_whole _ : scV.IsWhole).unread_read, ← View.writes_append]; unfold vv
  exact View.read_writes_of_cover _ _ _ _ _ (cov_v m c P)
/-- The row statistics after the third. -/
theorem st_of (f) (L : List (View.Piece (Elt F) S2x512x1 .f32)) (h : L = (rC m c P).1) :
    scSt.view.read (Elt F) (scSt.view.writes (Elt F) f L) = stat m c P := by
  subst h; unfold stat; exact View.read_writes_of_cover _ _ _ _ _ (cov_st m c P)
/-- The gated rows after the third. -/
theorem ga_of (f) (L : List (View.Piece (Elt F) S512x2048 .bf16)) (h : L = (rC m c P).2.1) :
    scGa.view.read (Elt F) (scGa.view.writes (Elt F) f L) = ga m c P f := by
  subst h; unfold ga; rfl
/-- The output block after the fourth. -/
theorem out_of (f) (g) (L : List (View.Piece (Elt F) S512x2048 .f32)) (h : L = (rD m c P (ga m c P f)).1) :
    (st8 (pt3 P)).view.read (Elt F) ((st8 (pt3 P)).view.writes (Elt F) g L) = outB m c P := by
  subst h; unfold outB; rw [out_indep m c P scGa.view.junk f]
  exact View.read_writes_of_cover _ _ _ _ _ (cov_out m c P _)

end Cert.OddRun

end
-- ==== Proof.Odd.Tile.lean ====
module

public import proofs.«01_k».proof.Proof.Odd.Spec
public import proofs.«01_k».proof.Proof.Odd.Indep
public import Idealize.ShloMosaic.Lib.Pointwise
public import Idealize.ShloMosaic.Lib.WholeRead
public import Idealize.ShloMosaic.Lib.Pipeline.ValueKit

@[expose] public section

set_option maxRecDepth 16384

noncomputable section

namespace Cert.OddRun

open Cert.OddIdeal Cert.OddIdeal.Gen Cert.OddSpec
open Idealize.ShloMosaic

/-- The gated number of a tile at offset `(o0, o1)`, at the tile's own index. -/
def tileV (U Y : Fin 512 → Fin 2048 → EReal) (W : Fin 8 → Fin 128 → Fin 128 → EReal) (B : Fin 128 → Fin 8 → EReal)
    (o0 o1 : ℕ) (h0 : o0 + 128 ≤ 512) (h1 : o1 + 256 ≤ 2048) (p : Fin 128) (q : Fin 256) : EReal :=
  gate (U ⟨o0 + p.val, by omega⟩ ⟨o1 + q.val, by omega⟩) (W ⟨o1 / 256, by omega⟩ p)
    (fun s => Y ⟨o0 + s.val, by omega⟩ ⟨o1 + q.val, by omega⟩) (B p ⟨o1 / 256, by omega⟩) p

/-- The gated number at row `r` of a row block and column `f`. -/
def gated (U Y : Fin 512 → Fin 2048 → EReal) (W : Fin 8 → Fin 128 → Fin 128 → EReal) (B : Fin 128 → Fin 8 → EReal)
    (r : Fin 512) (f : Fin 2048) : EReal :=
  gate (U r f) (W ⟨f.val / 256, by omega⟩ ⟨r.val % 128, by omega⟩)
    (fun s => Y ⟨128 * (r.val / 128) + s.val, by omega⟩ f) (B ⟨r.val % 128, by omega⟩ ⟨f.val / 256, by omega⟩) ⟨r.val % 128, by omega⟩

/-- A tile holding the tile values holds the gated numbers. -/
theorem at_tile {U Y : Fin 512 → Fin 2048 → EReal} {W : Fin 8 → Fin 128 → Fin 128 → EReal} {B : Fin 128 → Fin 8 → EReal}
    {o0 o1 : ℕ} (h0 : o0 + 128 ≤ 512) (h1 : o1 + 256 ≤ 2048) (e0 : o0 % 128 = 0) (e1 : o1 % 256 = 0)
    (w : (⟨2, ![128, 256]⟩ : Shape).Idx → EReal)
    (hw : ∀ p q, w (ix2 p q) = tileV U Y W B o0 o1 h0 h1 p q) (r : Fin 512) (f : Fin 2048) :
    View.TileAt (S := S512x2048) (Val := Elt Ideal) (e := .bf16) (ix2 r f) ![o0, o1] ![128, 256] w (gated U Y W B r f) := by
  intro x h
  obtain ⟨p, q, rfl⟩ : ∃ (p : Fin 128) (q : Fin 256), x = ix2 p q := ⟨x 0, x 1, eq_ix2 x⟩
  have a0 : r.val = o0 + p.val := h 0
  have a1 : f.val = o1 + q.val := h 1
  refine (hw p q).trans ?_
  have l0 : o0 + p.val < 512 := by omega
  have l1 : o1 + q.val < 2048 := by omega
  clear h
  obtain rfl : r = ⟨o0 + p.val, l0⟩ := Fin.ext a0
  obtain rfl : f = ⟨o1 + q.val, l1⟩ := Fin.ext a1
  have b0 : (o0 + p.val) % 128 = p.val := by omega
  have b1 : (o1 + q.val) / 256 = o1 / 256 := by omega
  have b2 : 128 * ((o0 + p.val) / 128) = o0 := by omega
  unfold tileV gated
  simp only [b0, b1, b2]

end Cert.OddRun
end
end
-- ==== Proof.Odd.HalfC.lean ====
module

public import proofs.«01_k».proof.Proof.Odd.Tile
public import Idealize.ShloMosaic.Lib.Pointwise
public import Idealize.ShloMosaic.Lib.WholeRead
public import Idealize.ShloMosaic.Lib.Pipeline.ValueKit

@[expose] public section

set_option maxRecDepth 16384

noncomputable section

namespace Cert.OddRun

open Cert.OddIdeal Cert.OddIdeal.Gen Cert.OddSpec
open Idealize.ShloMosaic

variable (m : (ℓ : Loc nD τ sig) → Buf (Elt Ideal) ℓ) (c : Dev nD) (P : Fin 32)

/-- The first half's normalised rows. -/
abbrev yC : FVec Ideal S512x1024 .bf16 := runC.sl.r_1 c (st3 (pt2 P)) (wh3 (pt2 P)) (st4 (pt2 P)) (wh4 (pt2 P)) scV (Memref.isWhole_whole _) scSt (iblk m c 3 (pt2 P)) (iblk m c 4 (pt2 P)) (vv m c P)

/-- The first half's gates. -/
abbrev uC : FVec Ideal S512x1024 .f32 := runC.sl.r_2 c (st2 (pt2 P)) (wh2 (pt2 P)) scHn (Memref.isWhole_whole _) (iblk m c 2 (pt2 P)) (hn m c P)

/-- Every tile of the third point holds the gated numbers. -/
theorem tilesC {U Y : Fin 512 → Fin 2048 → EReal} {W : Fin 8 → Fin 128 → Fin 128 → EReal} {B : Fin 128 → Fin 8 → EReal}
    (hU : ∀ r f, uC m c P (ix2 r f) = U r ⟨f.val, by omega⟩)
    (hY : ∀ r f, yC m c P (ix2 r f) = Y r ⟨f.val, by omega⟩)
    (hW : ∀ g p s, iblk m c 5 (pt2 P) (ix3 g p s) = W g p s) (hB : ∀ p g, iblk m c 6 (pt2 P) (ix2 p g) = B p g)
    (r : Fin 512) (f : Fin 2048) : View.AllAt (rC m c P).2.1 (ix2 r f) (gated U Y W B r f) := by
  unfold rC runC
  dsimp only
  iterate 16 (
    refine View.allAt_cons_unit _ _ _ _ _ (at_tile (by decide) (by decide) (by decide) (by decide) _ (fun p q => ?_) _ _) ?_
    · pointwise [tileV, gate, k0_pay3, k0_pay4, k0_pay5, k0_pay6, k0_pay7, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, runC.sl.v84, runC.sl.v85,  runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, tri, hU, hY, Memref.IsWhole.readAt_unread, hW, hB]
      try simp only [← Nat.add_assoc, Nat.reduceAdd])
  exact View.allAt_nil _ _

end Cert.OddRun
end
end
-- ==== Proof.Odd.HalfD.lean ====
module

public import proofs.«01_k».proof.Proof.Odd.Tile
public import Idealize.ShloMosaic.Lib.Pointwise
public import Idealize.ShloMosaic.Lib.WholeRead
public import Idealize.ShloMosaic.Lib.Pipeline.ValueKit

@[expose] public section

set_option maxRecDepth 16384

noncomputable section

namespace Cert.OddRun

open Cert.OddIdeal Cert.OddIdeal.Gen Cert.OddSpec
open Idealize.ShloMosaic

variable (m : (ℓ : Loc nD τ sig) → Buf (Elt Ideal) ℓ) (c : Dev nD) (P : Fin 32)

/-- The second half's normalised rows. -/
abbrev yD : FVec Ideal S512x1024 .bf16 := runD.sl.r c (st3 (pt3 P)) (wh3 (pt3 P)) (st4 (pt3 P)) (wh4 (pt3 P)) scV (Memref.isWhole_whole _) scSt (Memref.isWhole_whole _) (iblk m c 3 (pt3 P)) (iblk m c 4 (pt3 P)) (vv m c P) (stat m c P)

/-- The second half's gates. -/
abbrev uD : FVec Ideal S512x1024 .f32 := runD.sl.r_1 c (st2 (pt3 P)) (wh2 (pt3 P)) scHn (Memref.isWhole_whole _) (iblk m c 2 (pt3 P)) (hn m c P)

/-- Every tile of the last point holds the gated numbers. -/
theorem tilesD {U Y : Fin 512 → Fin 2048 → EReal} {W : Fin 8 → Fin 128 → Fin 128 → EReal} {B : Fin 128 → Fin 8 → EReal}
    (hU : ∀ r f, uD m c P (ix2 r f) = U r ⟨1024 + f.val, by omega⟩)
    (hY : ∀ r f, yD m c P (ix2 r f) = Y r ⟨1024 + f.val, by omega⟩)
    (hW : ∀ g p s, iblk m c 5 (pt3 P) (ix3 g p s) = W g p s) (hB : ∀ p g, iblk m c 6 (pt3 P) (ix2 p g) = B p g)
    (r : Fin 512) (f : Fin 2048) : View.AllAt (lg1 m c P) (ix2 r f) (gated U Y W B r f) := by
  unfold lg1 runD.sl.HS3_16
  iterate 16 (
    refine View.allAt_cons_unit _ _ _ _ _ (at_tile (by decide) (by decide) (by decide) (by decide) _ (fun p q => ?_) _ _) ?_
    · pointwise [tileV, gate, k0_pay3, k0_pay4, k0_pay5, k0_pay6, k0_pay7, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, runD.sl.v43, runD.sl.v44, runD.sl.r_2, runD.sl.r_3, runD.sl.r_4, runD.sl.r_5, runD.sl.r_6, runD.sl.r_7, runD.sl.r_8, runD.sl.r_9, runD.sl.r_10, runD.sl.r_11, runD.sl.r_12, tri, hU, hY, Memref.IsWhole.readAt_unread, hW, hB]
      try simp only [← Nat.add_assoc, Nat.reduceAdd])
  exact View.allAt_nil _ _

end Cert.OddRun
end
end
-- ==== Proof.Odd.Vals.lean ====
module

public import proofs.«01_k».proof.Proof.Odd.Spec
public import proofs.«01_k».proof.Proof.Odd.HalfC
public import proofs.«01_k».proof.Proof.Odd.HalfD
public import Idealize.ShloMosaic.Lib.Pointwise
public import Idealize.ShloMosaic.Lib.WholeRead
public import Idealize.ShloMosaic.Lib.Pipeline.ValueKit

@[expose] public section

set_option maxRecDepth 16384

noncomputable section

namespace Cert.OddRun

open Cert.OddIdeal Cert.OddIdeal.Gen Cert.OddSpec
open Idealize.ShloMosaic

variable (m : (ℓ : Loc nD τ sig) → Buf (Elt Ideal) ℓ) (c : Dev nD) (P : Fin 32)

/-- The error function at the extended reals. -/
theorem erf_eq (x : EReal) : FloatOps.erf (F := Ideal) (φ := .f32) x = Ideal.erf x := rfl

/-- A load of the normalised rows' scratch, held at known contents. -/
theorem ld_hn (X : Vec Ideal S512x2048 .bf16) (B : LoadRect S512x2048) (x : B.shape.Idx) :
    View.readAt (Elt Ideal) (View.whole cc0_scratch0) B ((Memref.isWhole_whole _ : scHn.IsWhole).unread X) x = X (B.idx x) :=
  Memref.IsWhole.readAt_unread _ X B x

/-- A load of the value rows' scratch, held at known contents. -/
theorem ld_v (X : Vec Ideal S2x512x1024 .f32) (B : LoadRect S2x512x1024) (x : B.shape.Idx) :
    View.readAt (Elt Ideal) (View.whole cc0_scratch1) B ((Memref.isWhole_whole _ : scV.IsWhole).unread X) x = X (B.idx x) :=
  Memref.IsWhole.readAt_unread _ X B x

/-- A load of the statistics' scratch, held at known contents. -/
theorem ld_st (X : Vec Ideal S2x512x1 .f32) (B : LoadRect S2x512x1) (x : B.shape.Idx) :
    View.readAt (Elt Ideal) (View.whole cc0_scratch2) B ((Memref.isWhole_whole _ : scSt.IsWhole).unread X) x = X (B.idx x) :=
  Memref.IsWhole.readAt_unread _ X B x

/-- The normalised rows are the list's canonical contents. -/
theorem hn_canon : hn m c P = View.canon (rA m c P).1 := by
  unfold hn
  exact View.read_writes_junk_eq_canon _ _

/-- The normalised rows, number by number. -/
theorem hn_val (r : Fin 512) (k : Fin 2048) : hn m c P (ix2 r k)
    = FfnSpec.rms (fun j => iblk m c 0 (pt0 P) (ix2 r j)) (fun j => iblk m c 1 (pt0 P) (ix2 0 j)) k := by
  rw [hn_canon]
  unfold rA runA
  dsimp only
  unfold runA.sl.HS0_1
  rw [View.canon_unit_zero (by decide)]
  pointwise [FfnSpec.rms, k0_pay1, Memref.IsWhole.readAt_unread]

/-- What the first point reads back of the normalised rows. -/
theorem v12_val (r : Fin 512) (k : Fin 2048) :
    runA.sl.v12 c (st0 (pt0 P)) (wh0 (pt0 P)) (st1 (pt0 P)) (wh1 (pt0 P)) scHn (iblk m c 0 (pt0 P)) (iblk m c 1 (pt0 P)) (ix2 r k)
      = hn m c P (ix2 r k) := by
  unfold runA.sl.v12
  rw [View.readCov_eq_canon', hn_canon]
  unfold rA runA
  dsimp only
  pointwise []

/-- The two halves of the value rows, number by number. -/
theorem vv_val (h : Fin 2) (r : Fin 512) (f : Fin 1024) : vv m c P (ix3 h r f)
    = gelu (∑ j : Fin 2048, hn m c P (ix2 r j) * iblk m c 2 (if h = 0 then pt0 P else pt1 P) (ix3 0 j f)) := by
  unfold vv
  rw [View.read_writes_junk_eq_canon]
  refine View.canon_eq_of_allAt _ _ _ (cov_v m c P _) ?_
  unfold lv1 lv0
  refine View.allAt_cons_unit _ _ _ _ _ ?_ (View.allAt_cons_unit _ _ _ _ _ ?_ (View.allAt_nil _ _))
  · intro x hx
    obtain ⟨a, p, q, rfl⟩ : ∃ (a : Fin 1) (p : Fin 512) (q : Fin 1024), x = ix3 a p q := ⟨x 0, x 1, x 2, eq_ix3 x⟩
    have e0 : h.val = 1 + a.val := hx 0
    have e1 : r.val = 0 + p.val := hx 1
    have e2 : f.val = 0 + q.val := hx 2
    obtain rfl : a = 0 := Subsingleton.elim _ _
    obtain rfl : h = 1 := Fin.ext e0
    obtain rfl : r = p := Fin.ext (by omega)
    obtain rfl : f = q := Fin.ext (by omega)
    rw [if_neg (by decide)]
    pointwise [k0_pay2, gelu, erf_eq, Memref.IsWhole.readAt_unread, ld_hn]
  · intro x hx
    obtain ⟨a, p, q, rfl⟩ : ∃ (a : Fin 1) (p : Fin 512) (q : Fin 1024), x = ix3 a p q := ⟨x 0, x 1, x 2, eq_ix3 x⟩
    have e0 : h.val = 0 + a.val := hx 0
    have e1 : r.val = 0 + p.val := hx 1
    have e2 : f.val = 0 + q.val := hx 2
    obtain rfl : a = 0 := Subsingleton.elim _ _
    obtain rfl : h = 0 := Fin.ext e0
    obtain rfl : r = p := Fin.ext (by omega)
    obtain rfl : f = q := Fin.ext (by omega)
    rw [if_pos rfl]
    pointwise [k0_pay2, gelu, erf_eq, Memref.IsWhole.readAt_unread, v12_val]

/-- Row `r` of the value rows, the halves side by side. -/
def vrow (r : Fin 512) (f : Fin 2048) : EReal := vv m c P (ix3 ⟨f.val / 1024, by omega⟩ r ⟨f.val % 1024, by omega⟩)

theorem vrow_lo (r : Fin 512) (f : Fin 1024) : vrow m c P r ⟨f.val, by omega⟩ = vv m c P (ix3 0 r f) := by
  unfold vrow
  have h0 : f.val / 1024 = 0 := by omega
  have h1 : f.val % 1024 = f.val := by omega
  simp only [h0, h1]; rfl

theorem vrow_hi (r : Fin 512) (f : Fin 1024) : vrow m c P r ⟨1024 + f.val, by omega⟩ = vv m c P (ix3 1 r f) := by
  unfold vrow
  have h0 : (1024 + f.val) / 1024 = 1 := by omega
  have h1 : (1024 + f.val) % 1024 = f.val := by omega
  simp only [h0, h1]; rfl

/-- The statistics' list, number by number: the mean, then the reciprocal deviation. -/
theorem st_all (h : Fin 2) (r : Fin 512) : View.canon (rC m c P).1 (ix3 h r 0)
    = if h = 0 then mean (vrow m c P r)
      else Ideal.rsqrt (mean (fun j => (vrow m c P r j - mean (vrow m c P r)) * (vrow m c P r j - mean (vrow m c P r))) + Ideal.ofBits .f32 0x358637BD#32) := by
  refine View.canon_eq_of_allAt _ _ _ (cov_st m c P _) ?_
  unfold rC runC
  dsimp only
  unfold runC.sl.HS2_2
  refine View.allAt_cons_unit _ _ _ _ _ ?_ (View.allAt_cons_unit _ _ _ _ _ ?_ (View.allAt_nil _ _))
  · intro x hx
    obtain ⟨a, p, q, rfl⟩ : ∃ (a : Fin 1) (p : Fin 512) (q : Fin 1), x = ix3 a p q := ⟨x 0, x 1, x 2, eq_ix3 x⟩
    have e0 : h.val = 1 + a.val := hx 0
    have e1 : r.val = 0 + p.val := hx 1
    obtain rfl : a = 0 := Subsingleton.elim _ _
    obtain rfl : q = 0 := Subsingleton.elim _ _
    obtain rfl : h = 1 := Fin.ext e0
    obtain rfl : r = p := Fin.ext (by omega)
    rw [if_neg (by decide)]
    pointwise [k0_pay14, runC.sl.r, k0_pay13, k0_pay11, k0_pay10, k0_pay9, mean, vrow_lo, vrow_hi, ld_v]
  · intro x hx
    obtain ⟨a, p, q, rfl⟩ : ∃ (a : Fin 1) (p : Fin 512) (q : Fin 1), x = ix3 a p q := ⟨x 0, x 1, x 2, eq_ix3 x⟩
    have e0 : h.val = 0 + a.val := hx 0
    have e1 : r.val = 0 + p.val := hx 1
    obtain rfl : a = 0 := Subsingleton.elim _ _
    obtain rfl : q = 0 := Subsingleton.elim _ _
    obtain rfl : h = 0 := Fin.ext e0
    obtain rfl : r = p := Fin.ext (by omega)
    rw [if_pos rfl]
    pointwise [k0_pay12, k0_pay11, k0_pay10, k0_pay9, mean, vrow_lo, vrow_hi, ld_v]

/-- The statistics the last point finds. -/
theorem stat_canon : stat m c P = View.canon (rC m c P).1 := by
  unfold stat
  exact View.read_writes_junk_eq_canon _ _

/-- The first half's normalised value rows. -/
theorem y_lo (r : Fin 512) (f : Fin 1024) : yC m c P (ix2 r f)
    = ln (vrow m c P r) (fun j => iblk m c 3 (pt2 P) (ix2 0 j)) (fun j => iblk m c 4 (pt2 P) (ix2 0 j)) ⟨f.val, by omega⟩ := by
  have s0 := st_all m c P 0 r
  have s1 := st_all m c P 1 r
  rw [if_pos rfl] at s0
  rw [if_neg (by decide)] at s1
  unfold rC runC at s0 s1
  dsimp only at s0 s1
  unfold ln
  rw [← s1, ← s0, vrow_lo]
  unfold yC
  pointwise [runC.sl.r_1, k0_pay15, runC.sl.v55, runC.sl.v59, View.readCov_eq_canon', ld_v, Memref.IsWhole.readAt_unread]

/-- The second half's normalised value rows. -/
theorem y_hi (r : Fin 512) (f : Fin 1024) : yD m c P (ix2 r f)
    = ln (vrow m c P r) (fun j => iblk m c 3 (pt3 P) (ix2 0 j)) (fun j => iblk m c 4 (pt3 P) (ix2 0 j)) ⟨1024 + f.val, by omega⟩ := by
  have s0 := st_all m c P 0 r
  have s1 := st_all m c P 1 r
  rw [if_pos rfl, ← stat_canon] at s0
  rw [if_neg (by decide), ← stat_canon] at s1
  unfold ln
  rw [← s1, ← s0, vrow_hi]
  unfold yD
  pointwise [runD.sl.r, k0_pay45, ld_v, ld_st, Memref.IsWhole.readAt_unread]

/-- The first half's gates. -/
theorem u_lo (r : Fin 512) (f : Fin 1024) : uC m c P (ix2 r f)
    = gelu (∑ j : Fin 2048, hn m c P (ix2 r j) * iblk m c 2 (pt2 P) (ix3 0 j f)) := by
  unfold uC
  pointwise [runC.sl.r_2, gelu, erf_eq, k0_pay16, ld_hn, Memref.IsWhole.readAt_unread]

/-- The second half's gates. -/
theorem u_hi (r : Fin 512) (f : Fin 1024) : uD m c P (ix2 r f)
    = gelu (∑ j : Fin 2048, hn m c P (ix2 r j) * iblk m c 2 (pt3 P) (ix3 0 j f)) := by
  unfold uD
  pointwise [runD.sl.r_1, gelu, erf_eq, k0_pay46, ld_hn, Memref.IsWhole.readAt_unread]

/-- The gated rows the last point reads back. -/
theorem gin_val {U Y : Fin 512 → Fin 2048 → EReal} {W : Fin 8 → Fin 128 → Fin 128 → EReal} {B : Fin 128 → Fin 8 → EReal}
    (hC : ∀ r f, View.AllAt (rC m c P).2.1 (ix2 r f) (gated U Y W B r f))
    (hD : ∀ r f, View.AllAt (lg1 m c P) (ix2 r f) (gated U Y W B r f))
    (f₀ : scGa.view.ty.Contents (Elt Ideal)) (r : Fin 512) (f : Fin 2048) :
    gin m c P (ga m c P f₀) (ix2 r f) = gated U Y W B r f := by
  rw [gin_ga m c P f₀ scGa.view.junk, View.readAt_writes_junk_eq_canon]
  have e : ∀ x : S512x2048.Idx, (Rect.unit (s := S512x2048) ![0, 0] ![512, 2048] inb_S512x2048_S512x2048_0_0).toLoadRect.idx x = x := fun x => by
    obtain ⟨p, q, rfl⟩ : ∃ (p : Fin 512) (q : Fin 2048), x = ix2 p q := ⟨x 0, x 1, eq_ix2 x⟩
    pointwise []
  show View.canon _ _ = _
  rw [e]
  refine View.canon_eq_of_allAt _ _ _ ?_ fun p hp => ?_
  · have := cov_ga m c P (ga m c P f₀) (ix2 r f)
    rwa [rD_ga] at this
  · rcases List.mem_append.mp hp with h | h
    · exact hD r f p h
    · exact hC r f p h

/-- The output block, number by number. -/
theorem outB_val {U Y : Fin 512 → Fin 2048 → EReal} {W : Fin 8 → Fin 128 → Fin 128 → EReal} {B : Fin 128 → Fin 8 → EReal}
    {X Wo : _} (hX : ∀ r k, iblk m c 0 (pt3 P) (ix2 r k) = (X : Fin 512 → Fin 2048 → EReal) r k)
    (hWo : ∀ f k, iblk m c 7 (pt3 P) (ix3 0 f k) = (Wo : Fin 2048 → Fin 2048 → EReal) f k)
    (hC : ∀ r f, View.AllAt (rC m c P).2.1 (ix2 r f) (gated U Y W B r f))
    (hD : ∀ r f, View.AllAt (lg1 m c P) (ix2 r f) (gated U Y W B r f)) (r : Fin 512) (k : Fin 2048) :
    outB m c P (ix2 r k) = X r k + ∑ f : Fin 2048, gated U Y W B r f * Wo f k := by
  unfold outB
  rw [View.read_writes_junk_eq_canon, rD_out, View.canon_unit_zero (by decide)]
  have hg := gin_val m c P hC hD scGa.view.junk
  generalize gin m c P (ga m c P scGa.view.junk) = g at hg ⊢
  pointwise [k0_pay8, Memref.IsWhole.readAt_unread, hg, hX, hWo]

end Cert.OddRun
end
end
-- ==== Proof.Odd.Blocks.lean ====
module

public import proofs.«01_k».proof.Proof.Odd.Data
public import Idealize.ShloMosaic.Lib.Pointwise
public import Idealize.ShloMosaic.Lib.Pipeline.ValueKit

@[expose] public section

set_option maxRecDepth 16384

noncomputable section

namespace Cert.OddRun

open Cert.OddIdeal Cert.OddIdeal.Gen
open Idealize.ShloMosaic Idealize.ShloMosaic.TcCoe

variable (m : (ℓ : Loc nD τ sig) → Buf (Elt Ideal) ℓ)

/-- Every point lies in the grid of 32 row blocks by 4 points. -/
theorem pt_lt (t : Fin cfg0.N) : t.val < 128 := t.isLt

/-- The blocks' indices at a point, window by window. -/
theorem idx : ∀ t : Fin grid0.N, win0_0.index t = ![t.val / 4, 0] ∧ win0_1.index t = ![0, 0]
    ∧ win0_2.index t = ![0, 0, (t.val % 4 + 2) % 4] ∧ win0_3.index t = ![0, 0] ∧ win0_4.index t = ![0, 0]
    ∧ win0_5.index t = ![0, 0, 0] ∧ win0_6.index t = ![0, 0] ∧ win0_7.index t = ![0, 0, 0]
    ∧ win0_8.index t = ![t.val / 4, 0] := by decide +kernel

/-- The residual rows of a point. -/
theorem blk0 (c : Dev nD) (t : Fin cfg0.N) (r : Fin 512) (k : Fin 2048) :
    iblk m c 0 t (ix2 r k) = m ((c : Thread nD τ).loc main_arg0)
      (ix3 ⟨(512 * (t.val / 4) + r.val) / 4096, by have := pt_lt t; omega⟩
        ⟨(512 * (t.val / 4) + r.val) % 4096, by omega⟩ k) := by
  have := pt_lt t
  blk_ext! [iblk, V, idx t]

/-- The input gain. -/
theorem blk1 (c : Dev nD) (t : Fin cfg0.N) (k : Fin 2048) :
    iblk m c 1 t (ix2 0 k) = m ((c : Thread nD τ).loc main_arg1) (ix2 0 k) := by
  blk_ext! [iblk, V, idx t]

/-- The input projection's columns of a point. -/
theorem blk2 (c : Dev nD) (t : Fin cfg0.N) (k : Fin 2048) (f : Fin 1024) :
    iblk m c 2 t (ix3 0 k f) = m ((c : Thread nD τ).loc main_arg2)
      (ix3 0 k ⟨1024 * ((t.val % 4 + 2) % 4) + f.val, by omega⟩) := by
  blk_ext! [iblk, V, idx t]

/-- The value norm's gain. -/
theorem blk3 (c : Dev nD) (t : Fin cfg0.N) (k : Fin 2048) :
    iblk m c 3 t (ix2 0 k) = m ((c : Thread nD τ).loc main_arg3) (ix2 0 k) := by
  blk_ext! [iblk, V, idx t]

/-- The value norm's bias. -/
theorem blk4 (c : Dev nD) (t : Fin cfg0.N) (k : Fin 2048) :
    iblk m c 4 t (ix2 0 k) = m ((c : Thread nD τ).loc main_arg4) (ix2 0 k) := by
  blk_ext! [iblk, V, idx t]

/-- The mixing weights. -/
theorem blk5 (c : Dev nD) (t : Fin cfg0.N) (g : Fin 8) (p s : Fin 128) :
    iblk m c 5 t (ix3 g p s) = m ((c : Thread nD τ).loc main_arg5) (ix4 0 g p s) := by
  blk_ext! [iblk, V, idx t]

/-- The mixing biases, turned. -/
theorem blk6 (c : Dev nD) (t : Fin cfg0.N) (p : Fin 128) (g : Fin 8) :
    iblk m c 6 t (ix2 p g) = m ((c : Thread nD τ).loc main_arg6) (ix3 0 g p) := by
  blk_ext! [iblk, V, idx t]

/-- The output projection. -/
theorem blk7 (c : Dev nD) (t : Fin cfg0.N) (f k : Fin 2048) :
    iblk m c 7 t (ix3 0 f k) = m ((c : Thread nD τ).loc main_arg7) (ix3 0 f k) := by
  blk_ext! [iblk, V, idx t]

end Cert.OddRun
end
end
-- ==== Proof.Odd.Out.lean ====
module

public import proofs.«01_k».proof.Proof.Odd.Vals
public import proofs.«01_k».proof.Proof.Odd.Blocks

@[expose] public section

set_option maxRecDepth 16384

noncomputable section

namespace Cert.OddRun

open Cert.OddIdeal Cert.OddIdeal.Gen Cert.OddSpec
open Idealize.ShloMosaic Idealize.ShloMosaic.TcCoe

variable (m : (ℓ : Loc nD τ sig) → Buf (Elt Ideal) ℓ) (c : Dev nD)

/-- The residual rows. -/
def xs (R : Fin 16384) (k : Fin 2048) : EReal :=
  m ((c : Thread nD τ).loc main_arg0) (ix3 ⟨R.val / 4096, by omega⟩ ⟨R.val % 4096, by omega⟩ k)

/-- The input gain. -/
def gn (k : Fin 2048) : EReal := m ((c : Thread nD τ).loc main_arg1) (ix2 0 k)

/-- The input projection. -/
def wi (k : Fin 2048) (f : Fin 4096) : EReal := m ((c : Thread nD τ).loc main_arg2) (ix3 0 k f)

/-- The value norm's gain. -/
def lg (k : Fin 2048) : EReal := m ((c : Thread nD τ).loc main_arg3) (ix2 0 k)

/-- The value norm's bias. -/
def lb (k : Fin 2048) : EReal := m ((c : Thread nD τ).loc main_arg4) (ix2 0 k)

/-- The mixing weights. -/
def ws (g : Fin 8) (p s : Fin 128) : EReal := m ((c : Thread nD τ).loc main_arg5) (ix4 0 g p s)

/-- The mixing biases. -/
def bs (g : Fin 8) (p : Fin 128) : EReal := m ((c : Thread nD τ).loc main_arg6) (ix3 0 g p)

/-- The output projection. -/
def wo (f k : Fin 2048) : EReal := m ((c : Thread nD τ).loc main_arg7) (ix3 0 f k)

/-- The result array. -/
def G8 : Buf (Elt Ideal) ((c : Thread nD τ).loc main_v12) := fun i =>
  out (xs m c) (gn m c) (wi m c) (lg m c) (lb m c) (ws m c) (bs m c) (wo m c) (i 0) (i 1)

variable (P : Fin 32)

/-- Row `r` of row block `P` among all rows. -/
abbrev row (r : Fin 512) : Fin 16384 := ⟨512 * P.val + r.val, by omega⟩

/-- A residual block's rows. -/
theorem blkX (t : Fin cfg0.N) (h : t.val / 4 = P.val) (r : Fin 512) (k : Fin 2048) :
    iblk m c 0 t (ix2 r k) = xs m c (row P r) k := by
  rw [blk0]
  unfold xs
  simp only [h]

/-- The normalised rows of a row block. -/
theorem hn_row (r : Fin 512) (k : Fin 2048) : hn m c P (ix2 r k) = FfnSpec.rms (xs m c (row P r)) (gn m c) k := by
  rw [hn_val, show (fun j => iblk m c 0 (pt0 P) (ix2 r j)) = xs m c (row P r) from
      funext fun j => blkX m c P (pt0 P) (by dsimp only; omega) r j,
    show (fun j => iblk m c 1 (pt0 P) (ix2 0 j)) = gn m c from funext fun j => blk1 m c (pt0 P) j]

/-- A projection block at a point, through the normalised rows. -/
theorem proj_row (t : Fin cfg0.N) (r : Fin 512) (f : Fin 1024) (n : ℕ) (hn4 : (t.val % 4 + 2) % 4 = n) (h : 1024 * n + f.val < 4096) :
    ∑ j : Fin 2048, hn m c P (ix2 r j) * iblk m c 2 t (ix3 0 j f)
      = ∑ j : Fin 2048, FfnSpec.rms (xs m c (row P r)) (gn m c) j * wi m c j ⟨1024 * n + f.val, h⟩ := by
  subst hn4
  refine Finset.sum_congr rfl fun j _ => ?_
  rw [hn_row]
  exact congrArg (_ * ·) (blk2 m c t j f)

/-- The value rows of a row block. -/
theorem v_row (r : Fin 512) : vrow m c P r = vRow (xs m c (row P r)) (gn m c) (wi m c) := by
  funext f
  unfold vrow vRow
  rw [vv_val]
  by_cases hf : f.val < 1024
  · rw [if_pos (Fin.ext (by dsimp only; omega)), proj_row m c P (pt0 P) r _ 2 (by dsimp only; omega) (by dsimp only; omega)]
    have e : 1024 * 2 + f.val % 1024 = 2048 + f.val := by omega
    simp only [e]
  · rw [if_neg (fun h => by have := congrArg Fin.val h; dsimp only at this; have h0 : ((0 : Fin 2) : ℕ) = 0 := rfl; omega), proj_row m c P (pt1 P) r _ 3 (by dsimp only; omega) (by dsimp only; omega)]
    have e : 1024 * 3 + f.val % 1024 = 2048 + f.val := by omega
    simp only [e]

/-- The output block of a row block is the layer's rows. -/
theorem outB_out (r : Fin 512) (k : Fin 2048) : outB m c P (ix2 r k)
    = out (xs m c) (gn m c) (wi m c) (lg m c) (lb m c) (ws m c) (bs m c) (wo m c) (row P r) k := by
  have uy : (∀ (r : Fin 512) (f : Fin 1024), uC m c P (ix2 r f) = uRow (xs m c (row P r)) (gn m c) (wi m c) ⟨f.val, by omega⟩)
      ∧ ∀ (r : Fin 512) (f : Fin 1024), uD m c P (ix2 r f) = uRow (xs m c (row P r)) (gn m c) (wi m c) ⟨1024 + f.val, by omega⟩ := by
    constructor
    · intro r f
      rw [u_lo, proj_row m c P (pt2 P) r f 0 (by dsimp only; omega) (by omega)]
      unfold uRow
      simp only [Nat.mul_zero, Nat.zero_add]
    · intro r f
      rw [u_hi, proj_row m c P (pt3 P) r f 1 (by dsimp only; omega) (by omega)]
      rfl
  have el : ∀ t, (fun j => iblk m c 3 t (ix2 0 j)) = lg m c := fun t => funext fun j => blk3 m c t j
  have eb : ∀ t, (fun j => iblk m c 4 t (ix2 0 j)) = lb m c := fun t => funext fun j => blk4 m c t j
  rw [outB_val m c P (U := fun r f => uRow (xs m c (row P r)) (gn m c) (wi m c) f)
    (Y := fun r f => ln (vRow (xs m c (row P r)) (gn m c) (wi m c)) (lg m c) (lb m c) f) (W := ws m c) (B := fun p g => bs m c g p)
    (X := fun r k => xs m c (row P r) k) (Wo := wo m c)
    (fun r k => blkX m c P (pt3 P) (by dsimp only; omega) r k) (fun f k => blk7 m c (pt3 P) f k)
    (tilesC m c P uy.1 (fun r f => by rw [y_lo, v_row, el, eb]) (fun g p s => blk5 m c (pt2 P) g p s) (fun p g => blk6 m c (pt2 P) p g))
    (tilesD m c P uy.2 (fun r f => by rw [y_hi, v_row, el, eb]) (fun g p s => blk5 m c (pt3 P) g p s) (fun p g => blk6 m c (pt3 P) p g))]
  unfold out gated
  have a : (512 * P.val + r.val) % 128 = r.val % 128 := by omega
  have b : ∀ s : Fin 128, 128 * ((512 * P.val + r.val) / 128) + s.val = 512 * P.val + (128 * (r.val / 128) + s.val) := fun s => by omega
  simp only [a, b]

end Cert.OddRun
end
end
-- ==== Proof.Odd.BodySet.lean ====
module

public import proofs.«01_k».proof.Proof.Odd.Indep
public import Idealize.ShloMosaic.Lib.HeldBySlice

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (P : Fin 32)

/-- What the body is handed at a point. -/
def bodyPre (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

/-- What the body hands back. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (t : Fin cfg0.N) : (dats m 0 c).leavesExact 0 t = owns (c : Thread nD τ) (st0 t) fullShare (iblk m c 0 t) := by
  rw [← after0 m c t]
theorem leaves1 (t : Fin cfg0.N) : (dats m 0 c).leavesExact 1 t = owns (c : Thread nD τ) (st1 t) fullShare (iblk m c 1 t) := by
  rw [← after1 m c t]
theorem leaves2 (t : Fin cfg0.N) : (dats m 0 c).leavesExact 2 t = owns (c : Thread nD τ) (st2 t) fullShare (iblk m c 2 t) := by
  rw [← after2 m c t]
theorem leaves3 (t : Fin cfg0.N) : (dats m 0 c).leavesExact 3 t = owns (c : Thread nD τ) (st3 t) fullShare (iblk m c 3 t) := by
  rw [← after3 m c t]
theorem leaves4 (t : Fin cfg0.N) : (dats m 0 c).leavesExact 4 t = owns (c : Thread nD τ) (st4 t) fullShare (iblk m c 4 t) := by
  rw [← after4 m c t]
theorem leaves5 (t : Fin cfg0.N) : (dats m 0 c).leavesExact 5 t = owns (c : Thread nD τ) (st5 t) fullShare (iblk m c 5 t) := by
  rw [← after5 m c t]
theorem leaves6 (t : Fin cfg0.N) : (dats m 0 c).leavesExact 6 t = owns (c : Thread nD τ) (st6 t) fullShare (iblk m c 6 t) := by
  rw [← after6 m c t]
theorem leaves7 (t : Fin cfg0.N) : (dats m 0 c).leavesExact 7 t = owns (c : Thread nD τ) (st7 t) fullShare (iblk m c 7 t) := by
  rw [← after7 m c t]

/-- The region's final word on a point: its invariant is the one before the next. -/
theorem phi_succ (t : Fin cfg0.N) : (dats m 0 c).Φ t.succ = PhiS m c (t.val + 1) := rfl
theorem phi_cast (t : Fin cfg0.N) : (dats m 0 c).Φ t.castSucc = PhiS m c t.val := by
  dsimp only [dats]; rfl

/-- What the body is handed, spelled out. -/
theorem pre_to (t : Fin cfg0.N) : bodyPre m c t ⊢ iprop(PhiS m c t.val ∗ (dats m 0 c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ owns (c : Thread nD τ) (st5 t) fullShare (iblk m c 5 t)
    ∗ owns (c : Thread nD τ) (st6 t) fullShare (iblk m c 6 t)
    ∗ owns (c : Thread nD τ) (st7 t) fullShare (iblk m c 7 t)
    ∗ (∃ d, owns (c : Thread nD τ) (st8 t) fullShare ((dats m 0 c).before 8 t d))) := by
  unfold bodyPre
  simp only [before0, before1, before2, before3, before4, before5, before6, before7]
  rw [phi_cast]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- What the body hands back where the output is idle. -/
theorem post_idle (t : Fin cfg0.N) (h : cfg0.idle 8 (grid0.coords t) = true) (h' : (cfg0.win 8).flush t = false) :
    bodyPost m c t = iprop(PhiS m c (t.val + 1) ∗ (dats m 0 c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ owns (c : Thread nD τ) (st5 t) fullShare (iblk m c 5 t)
    ∗ owns (c : Thread nD τ) (st6 t) fullShare (iblk m c 6 t)
    ∗ owns (c : Thread nD τ) (st7 t) fullShare (iblk m c 7 t)
    ∗ (∃ d, owns (c : Thread nD τ) (st8 t) fullShare ((dats m 0 c).before 8 t d))) := by
  unfold bodyPost
  rw [leaves0, leaves1, leaves2, leaves3, leaves4, leaves5, leaves6, leaves7, phi_succ, Dat.leavesExact_idle (dats m 0 c) 8 t h h']
  rfl

/-- What the body hands back at a row block's last point. -/
theorem post_live :
    bodyPost m c (pt3 P) = iprop(PhiS m c ((pt3 P).val + 1) ∗ (dats m 0 c).owesAt () (pt3 P).castSucc
    ∗ owns (c : Thread nD τ) (st0 (pt3 P)) fullShare (iblk m c 0 (pt3 P))
    ∗ owns (c : Thread nD τ) (st1 (pt3 P)) fullShare (iblk m c 1 (pt3 P))
    ∗ owns (c : Thread nD τ) (st2 (pt3 P)) fullShare (iblk m c 2 (pt3 P))
    ∗ owns (c : Thread nD τ) (st3 (pt3 P)) fullShare (iblk m c 3 (pt3 P))
    ∗ owns (c : Thread nD τ) (st4 (pt3 P)) fullShare (iblk m c 4 (pt3 P))
    ∗ owns (c : Thread nD τ) (st5 (pt3 P)) fullShare (iblk m c 5 (pt3 P))
    ∗ owns (c : Thread nD τ) (st6 (pt3 P)) fullShare (iblk m c 6 (pt3 P))
    ∗ owns (c : Thread nD τ) (st7 (pt3 P)) fullShare (iblk m c 7 (pt3 P))
    ∗ owns (c : Thread nD τ) (st8 (pt3 P)) fullShare (outB m c P)) := by
  have h8 : (dats m 0 c).leavesExact 8 (pt3 P) = owns (c : Thread nD τ) (st8 (pt3 P)) fullShare (outB m c P) := by
    rw [← after8 m c P]; unfold Dat.leavesExact; rw [out_live (pt3 P) (by dsimp only; omega)]
  unfold bodyPost
  rw [leaves0, leaves1, leaves2, leaves3, leaves4, leaves5, leaves6, leaves7, phi_succ, h8]
  rfl

end Cert.OddRun

end
-- ==== Proof.Odd.BodyA.lean ====
module

public import proofs.«01_k».proof.Proof.Odd.BodySet
public import Idealize.ShloMosaic.Lib.HeldBySlice

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (P : Fin 32)

set_option maxHeartbeats 4000000 in
/-- The body at point 0 of a row block, the run given. -/
theorem coreA (s0 s1 s2 s3) (r) (hr : r = rA m c P) :
    iprop((owns (c : Thread nD τ) scHn fullShare s0 ∗ owns (c : Thread nD τ) scV fullShare s1 ∗ owns (c : Thread nD τ) scSt fullShare s2 ∗ owns (c : Thread nD τ) scGa fullShare s3) ∗ (∃ r, prngReg c r) ∗ (dats m 0 c).owesAt () (pt0 P).castSucc
    ∗ owns (c : Thread nD τ) (st0 (pt0 P)) fullShare (iblk m c 0 (pt0 P))
    ∗ owns (c : Thread nD τ) (st1 (pt0 P)) fullShare (iblk m c 1 (pt0 P))
    ∗ owns (c : Thread nD τ) (st2 (pt0 P)) fullShare (iblk m c 2 (pt0 P))
    ∗ owns (c : Thread nD τ) (st3 (pt0 P)) fullShare (iblk m c 3 (pt0 P))
    ∗ owns (c : Thread nD τ) (st4 (pt0 P)) fullShare (iblk m c 4 (pt0 P))
    ∗ owns (c : Thread nD τ) (st5 (pt0 P)) fullShare (iblk m c 5 (pt0 P))
    ∗ owns (c : Thread nD τ) (st6 (pt0 P)) fullShare (iblk m c 6 (pt0 P))
    ∗ owns (c : Thread nD τ) (st7 (pt0 P)) fullShare (iblk m c 7 (pt0 P))
    ∗ (∃ d, owns (c : Thread nD τ) (st8 (pt0 P)) fullShare ((dats m 0 c).before 8 (pt0 P) d))) ⊢ wp frame (wpE (defs₀ (F := F)) Variants.none c none) Set.univ (bodyAt0 (pt0 P)) (fun _ =>
      iprop(PhiS m c ((pt0 P).val + 1) ∗ (dats m 0 c).owesAt () (pt0 P).castSucc
    ∗ owns (c : Thread nD τ) (st0 (pt0 P)) fullShare (iblk m c 0 (pt0 P))
    ∗ owns (c : Thread nD τ) (st1 (pt0 P)) fullShare (iblk m c 1 (pt0 P))
    ∗ owns (c : Thread nD τ) (st2 (pt0 P)) fullShare (iblk m c 2 (pt0 P))
    ∗ owns (c : Thread nD τ) (st3 (pt0 P)) fullShare (iblk m c 3 (pt0 P))
    ∗ owns (c : Thread nD τ) (st4 (pt0 P)) fullShare (iblk m c 4 (pt0 P))
    ∗ owns (c : Thread nD τ) (st5 (pt0 P)) fullShare (iblk m c 5 (pt0 P))
    ∗ owns (c : Thread nD τ) (st6 (pt0 P)) fullShare (iblk m c 6 (pt0 P))
    ∗ owns (c : Thread nD τ) (st7 (pt0 P)) fullShare (iblk m c 7 (pt0 P))
    ∗ (∃ d, owns (c : Thread nD τ) (st8 (pt0 P)) fullShare ((dats m 0 c).before 8 (pt0 P) d)))) := by
  unfold PhiS bodyAt0
  iintro ⟨⟨HS0, HS1, HS2, HS3⟩, Hg, Ho, H0, H1, H2, H3, H4, H5, H6, H7, ⟨%d8, H8⟩⟩
  iapply (r.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexact HS1
  isplitl [HS2]; · iexact HS2
  isplitl [HS3]; · iexact HS3
  iintro ⟨H0, H1, H2, H3, H4, H5, H6, H7, H8, ⟨%es0, HS0⟩, HS1, HS2, HS3⟩
  isplitl [HS0 HS1 HS2 HS3 Hg]
  · iexists hn m c P, (scV.view.read (Elt F) (scV.view.writes (Elt F) ((Memref.isWhole_whole _ : scV.IsWhole).unread s1) (lv0 m c P))), s2, s3
    isplitr; · ipureintro; exact inv1 m c P _ _ _
    isplitl [HS0 HS1 HS2 HS3]
    · isplitl [HS0]
      · unfold owns; iexists _; isplitr
        swap; · iexact HS0
        ipureintro; exact hn_of m c P _ _ (congrArg PSigma.fst hr)
      isplitl [HS1]
      · unfold owns; iexists _; isplitr
        swap; · iexact HS1
        ipureintro; exact v0_of m c P _ _ (congrArg (fun q => q.2.1) hr)
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The body at point 0 of a row block. -/
theorem bodyA : bodyPre m c (pt0 P) ⊢ wp frame (wpE (defs₀ (F := F)) Variants.none c none) Set.univ (bodyAt0 (pt0 P)) (fun _ => bodyPost m c (pt0 P)) := by
  have key : ∀ s0 s1 s2 s3, Inv m c (pt0 P).val s0 s1 s2 s3 → (iprop((owns (c : Thread nD τ) scHn fullShare s0 ∗ owns (c : Thread nD τ) scV fullShare s1 ∗ owns (c : Thread nD τ) scSt fullShare s2 ∗ owns (c : Thread nD τ) scGa fullShare s3) ∗ (∃ r, prngReg c r) ∗ (dats m 0 c).owesAt () (pt0 P).castSucc
    ∗ owns (c : Thread nD τ) (st0 (pt0 P)) fullShare (iblk m c 0 (pt0 P))
    ∗ owns (c : Thread nD τ) (st1 (pt0 P)) fullShare (iblk m c 1 (pt0 P))
    ∗ owns (c : Thread nD τ) (st2 (pt0 P)) fullShare (iblk m c 2 (pt0 P))
    ∗ owns (c : Thread nD τ) (st3 (pt0 P)) fullShare (iblk m c 3 (pt0 P))
    ∗ owns (c : Thread nD τ) (st4 (pt0 P)) fullShare (iblk m c 4 (pt0 P))
    ∗ owns (c : Thread nD τ) (st5 (pt0 P)) fullShare (iblk m c 5 (pt0 P))
    ∗ owns (c : Thread nD τ) (st6 (pt0 P)) fullShare (iblk m c 6 (pt0 P))
    ∗ owns (c : Thread nD τ) (st7 (pt0 P)) fullShare (iblk m c 7 (pt0 P))
    ∗ (∃ d, owns (c : Thread nD τ) (st8 (pt0 P)) fullShare ((dats m 0 c).before 8 (pt0 P) d))) ⊢ wp frame (wpE (defs₀ (F := F)) Variants.none c none) Set.univ (bodyAt0 (pt0 P)) (fun _ => bodyPost m c (pt0 P))) := fun s0 s1 s2 s3 hI => by
    rewrite [post_idle m c (pt0 P) (out_idle _ (by dsimp only; omega)) (out_noFlush _ (by dsimp only; omega))]
    exact coreA m c P s0 s1 s2 s3 _ rfl
  refine (pre_to m c _).trans ?_
  unfold PhiS
  iintro ⟨⟨%s0, %s1, %s2, %s3, %hI, HS, Hg⟩, Hr⟩
  iapply (key s0 s1 s2 s3 hI)
  isplitl [HS]; · iexact HS
  isplitl [Hg]; · iexact Hg
  iexact Hr

end Cert.OddRun

end
-- ==== Proof.Odd.BodyB.lean ====
module

public import proofs.«01_k».proof.Proof.Odd.BodySet
public import Idealize.ShloMosaic.Lib.HeldBySlice

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (P : Fin 32)

set_option maxHeartbeats 4000000 in
/-- The body at point 1 of a row block, the run given. -/
theorem coreB (v s2 s3) (r) (hr : r = rB m c P) :
    iprop((owns (c : Thread nD τ) scHn fullShare (hn m c P) ∗ owns (c : Thread nD τ) scV fullShare (scV.view.read (Elt F) (scV.view.writes (Elt F) v (lv0 m c P))) ∗ owns (c : Thread nD τ) scSt fullShare s2 ∗ owns (c : Thread nD τ) scGa fullShare s3) ∗ (∃ r, prngReg c r) ∗ (dats m 0 c).owesAt () (pt1 P).castSucc
    ∗ owns (c : Thread nD τ) (st0 (pt1 P)) fullShare (iblk m c 0 (pt1 P))
    ∗ owns (c : Thread nD τ) (st1 (pt1 P)) fullShare (iblk m c 1 (pt1 P))
    ∗ owns (c : Thread nD τ) (st2 (pt1 P)) fullShare (iblk m c 2 (pt1 P))
    ∗ owns (c : Thread nD τ) (st3 (pt1 P)) fullShare (iblk m c 3 (pt1 P))
    ∗ owns (c : Thread nD τ) (st4 (pt1 P)) fullShare (iblk m c 4 (pt1 P))
    ∗ owns (c : Thread nD τ) (st5 (pt1 P)) fullShare (iblk m c 5 (pt1 P))
    ∗ owns (c : Thread nD τ) (st6 (pt1 P)) fullShare (iblk m c 6 (pt1 P))
    ∗ owns (c : Thread nD τ) (st7 (pt1 P)) fullShare (iblk m c 7 (pt1 P))
    ∗ (∃ d, owns (c : Thread nD τ) (st8 (pt1 P)) fullShare ((dats m 0 c).before 8 (pt1 P) d))) ⊢ wp frame (wpE (defs₀ (F := F)) Variants.none c none) Set.univ (bodyAt0 (pt1 P)) (fun _ =>
      iprop(PhiS m c ((pt1 P).val + 1) ∗ (dats m 0 c).owesAt () (pt1 P).castSucc
    ∗ owns (c : Thread nD τ) (st0 (pt1 P)) fullShare (iblk m c 0 (pt1 P))
    ∗ owns (c : Thread nD τ) (st1 (pt1 P)) fullShare (iblk m c 1 (pt1 P))
    ∗ owns (c : Thread nD τ) (st2 (pt1 P)) fullShare (iblk m c 2 (pt1 P))
    ∗ owns (c : Thread nD τ) (st3 (pt1 P)) fullShare (iblk m c 3 (pt1 P))
    ∗ owns (c : Thread nD τ) (st4 (pt1 P)) fullShare (iblk m c 4 (pt1 P))
    ∗ owns (c : Thread nD τ) (st5 (pt1 P)) fullShare (iblk m c 5 (pt1 P))
    ∗ owns (c : Thread nD τ) (st6 (pt1 P)) fullShare (iblk m c 6 (pt1 P))
    ∗ owns (c : Thread nD τ) (st7 (pt1 P)) fullShare (iblk m c 7 (pt1 P))
    ∗ (∃ d, owns (c : Thread nD τ) (st8 (pt1 P)) fullShare ((dats m 0 c).before 8 (pt1 P) d)))) := by
  unfold PhiS bodyAt0
  iintro ⟨⟨HS0, HS1, HS2, HS3⟩, Hg, Ho, H0, H1, H2, H3, H4, H5, H6, H7, ⟨%d8, H8⟩⟩
  iapply (r.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · iexists hn m c P, vv m c P, s2, s3
    isplitr; · ipureintro; exact inv2 m c P _ _
    isplitl [HS0 HS1 HS2 HS3]
    · isplitl [HS0]; · iexact HS0
      isplitl [HS1]
      · unfold owns; iexists _; isplitr
        swap; · iexact HS1
        ipureintro; exact v1_of m c P _ _ (congrArg Subtype.val hr)
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The body at point 1 of a row block. -/
theorem bodyB : bodyPre m c (pt1 P) ⊢ wp frame (wpE (defs₀ (F := F)) Variants.none c none) Set.univ (bodyAt0 (pt1 P)) (fun _ => bodyPost m c (pt1 P)) := by
  have key : ∀ s0 s1 s2 s3, Inv m c (pt1 P).val s0 s1 s2 s3 → (iprop((owns (c : Thread nD τ) scHn fullShare s0 ∗ owns (c : Thread nD τ) scV fullShare s1 ∗ owns (c : Thread nD τ) scSt fullShare s2 ∗ owns (c : Thread nD τ) scGa fullShare s3) ∗ (∃ r, prngReg c r) ∗ (dats m 0 c).owesAt () (pt1 P).castSucc
    ∗ owns (c : Thread nD τ) (st0 (pt1 P)) fullShare (iblk m c 0 (pt1 P))
    ∗ owns (c : Thread nD τ) (st1 (pt1 P)) fullShare (iblk m c 1 (pt1 P))
    ∗ owns (c : Thread nD τ) (st2 (pt1 P)) fullShare (iblk m c 2 (pt1 P))
    ∗ owns (c : Thread nD τ) (st3 (pt1 P)) fullShare (iblk m c 3 (pt1 P))
    ∗ owns (c : Thread nD τ) (st4 (pt1 P)) fullShare (iblk m c 4 (pt1 P))
    ∗ owns (c : Thread nD τ) (st5 (pt1 P)) fullShare (iblk m c 5 (pt1 P))
    ∗ owns (c : Thread nD τ) (st6 (pt1 P)) fullShare (iblk m c 6 (pt1 P))
    ∗ owns (c : Thread nD τ) (st7 (pt1 P)) fullShare (iblk m c 7 (pt1 P))
    ∗ (∃ d, owns (c : Thread nD τ) (st8 (pt1 P)) fullShare ((dats m 0 c).before 8 (pt1 P) d))) ⊢ wp frame (wpE (defs₀ (F := F)) Variants.none c none) Set.univ (bodyAt0 (pt1 P)) (fun _ => bodyPost m c (pt1 P))) := fun s0 s1 s2 s3 hI => by
    rewrite [post_idle m c (pt1 P) (out_idle _ (by dsimp only; omega)) (out_noFlush _ (by dsimp only; omega))]
    obtain ⟨e0, v, e1⟩ := at1 m c P hI; subst e0; subst e1
    exact coreB m c P v s2 s3 _ rfl
  refine (pre_to m c _).trans ?_
  unfold PhiS
  iintro ⟨⟨%s0, %s1, %s2, %s3, %hI, HS, Hg⟩, Hr⟩
  iapply (key s0 s1 s2 s3 hI)
  isplitl [HS]; · iexact HS
  isplitl [Hg]; · iexact Hg
  iexact Hr

end Cert.OddRun

end
-- ==== Proof.Odd.BodyC.lean ====
module

public import proofs.«01_k».proof.Proof.Odd.BodySet
public import Idealize.ShloMosaic.Lib.HeldBySlice

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (P : Fin 32)

set_option maxHeartbeats 4000000 in
/-- The body at point 2 of a row block, the run given. -/
theorem coreC (s2 s3) (r) (hr : r = rC m c P) :
    iprop((owns (c : Thread nD τ) scHn fullShare (hn m c P) ∗ owns (c : Thread nD τ) scV fullShare (vv m c P) ∗ owns (c : Thread nD τ) scSt fullShare s2 ∗ owns (c : Thread nD τ) scGa fullShare s3) ∗ (∃ r, prngReg c r) ∗ (dats m 0 c).owesAt () (pt2 P).castSucc
    ∗ owns (c : Thread nD τ) (st0 (pt2 P)) fullShare (iblk m c 0 (pt2 P))
    ∗ owns (c : Thread nD τ) (st1 (pt2 P)) fullShare (iblk m c 1 (pt2 P))
    ∗ owns (c : Thread nD τ) (st2 (pt2 P)) fullShare (iblk m c 2 (pt2 P))
    ∗ owns (c : Thread nD τ) (st3 (pt2 P)) fullShare (iblk m c 3 (pt2 P))
    ∗ owns (c : Thread nD τ) (st4 (pt2 P)) fullShare (iblk m c 4 (pt2 P))
    ∗ owns (c : Thread nD τ) (st5 (pt2 P)) fullShare (iblk m c 5 (pt2 P))
    ∗ owns (c : Thread nD τ) (st6 (pt2 P)) fullShare (iblk m c 6 (pt2 P))
    ∗ owns (c : Thread nD τ) (st7 (pt2 P)) fullShare (iblk m c 7 (pt2 P))
    ∗ (∃ d, owns (c : Thread nD τ) (st8 (pt2 P)) fullShare ((dats m 0 c).before 8 (pt2 P) d))) ⊢ wp frame (wpE (defs₀ (F := F)) Variants.none c none) Set.univ (bodyAt0 (pt2 P)) (fun _ =>
      iprop(PhiS m c ((pt2 P).val + 1) ∗ (dats m 0 c).owesAt () (pt2 P).castSucc
    ∗ owns (c : Thread nD τ) (st0 (pt2 P)) fullShare (iblk m c 0 (pt2 P))
    ∗ owns (c : Thread nD τ) (st1 (pt2 P)) fullShare (iblk m c 1 (pt2 P))
    ∗ owns (c : Thread nD τ) (st2 (pt2 P)) fullShare (iblk m c 2 (pt2 P))
    ∗ owns (c : Thread nD τ) (st3 (pt2 P)) fullShare (iblk m c 3 (pt2 P))
    ∗ owns (c : Thread nD τ) (st4 (pt2 P)) fullShare (iblk m c 4 (pt2 P))
    ∗ owns (c : Thread nD τ) (st5 (pt2 P)) fullShare (iblk m c 5 (pt2 P))
    ∗ owns (c : Thread nD τ) (st6 (pt2 P)) fullShare (iblk m c 6 (pt2 P))
    ∗ owns (c : Thread nD τ) (st7 (pt2 P)) fullShare (iblk m c 7 (pt2 P))
    ∗ (∃ d, owns (c : Thread nD τ) (st8 (pt2 P)) fullShare ((dats m 0 c).before 8 (pt2 P) d)))) := by
  unfold PhiS bodyAt0
  iintro ⟨⟨HS0, HS1, HS2, HS3⟩, Hg, Ho, H0, H1, H2, H3, H4, H5, H6, H7, ⟨%d8, H8⟩⟩
  iapply (r.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexists _; iexact HS2
  isplitl [HS3]; · iexact HS3
  iintro ⟨H0, H1, H2, H3, H4, H5, H6, H7, H8, HS0, HS1, ⟨%es2, HS2⟩, HS3⟩
  isplitl [HS0 HS1 HS2 HS3 Hg]
  · iexists hn m c P, vv m c P, stat m c P, (ga m c P ((Memref.isWhole_whole _ : scGa.IsWhole).unread s3))
    isplitr; · ipureintro; exact inv3 m c P _
    isplitl [HS0 HS1 HS2 HS3]
    · isplitl [HS0]; · iexact HS0
      isplitl [HS1]; · iexact HS1
      isplitl [HS2]
      · unfold owns; iexists _; isplitr
        swap; · iexact HS2
        ipureintro; exact st_of m c P _ _ (congrArg PSigma.fst hr)
      unfold owns; iexists _; isplitr
      swap; · iexact HS3
      ipureintro; exact ga_of m c P _ _ (congrArg (fun q => q.2.1) hr)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The body at point 2 of a row block. -/
theorem bodyC : bodyPre m c (pt2 P) ⊢ wp frame (wpE (defs₀ (F := F)) Variants.none c none) Set.univ (bodyAt0 (pt2 P)) (fun _ => bodyPost m c (pt2 P)) := by
  have key : ∀ s0 s1 s2 s3, Inv m c (pt2 P).val s0 s1 s2 s3 → (iprop((owns (c : Thread nD τ) scHn fullShare s0 ∗ owns (c : Thread nD τ) scV fullShare s1 ∗ owns (c : Thread nD τ) scSt fullShare s2 ∗ owns (c : Thread nD τ) scGa fullShare s3) ∗ (∃ r, prngReg c r) ∗ (dats m 0 c).owesAt () (pt2 P).castSucc
    ∗ owns (c : Thread nD τ) (st0 (pt2 P)) fullShare (iblk m c 0 (pt2 P))
    ∗ owns (c : Thread nD τ) (st1 (pt2 P)) fullShare (iblk m c 1 (pt2 P))
    ∗ owns (c : Thread nD τ) (st2 (pt2 P)) fullShare (iblk m c 2 (pt2 P))
    ∗ owns (c : Thread nD τ) (st3 (pt2 P)) fullShare (iblk m c 3 (pt2 P))
    ∗ owns (c : Thread nD τ) (st4 (pt2 P)) fullShare (iblk m c 4 (pt2 P))
    ∗ owns (c : Thread nD τ) (st5 (pt2 P)) fullShare (iblk m c 5 (pt2 P))
    ∗ owns (c : Thread nD τ) (st6 (pt2 P)) fullShare (iblk m c 6 (pt2 P))
    ∗ owns (c : Thread nD τ) (st7 (pt2 P)) fullShare (iblk m c 7 (pt2 P))
    ∗ (∃ d, owns (c : Thread nD τ) (st8 (pt2 P)) fullShare ((dats m 0 c).before 8 (pt2 P) d))) ⊢ wp frame (wpE (defs₀ (F := F)) Variants.none c none) Set.univ (bodyAt0 (pt2 P)) (fun _ => bodyPost m c (pt2 P))) := fun s0 s1 s2 s3 hI => by
    rewrite [post_idle m c (pt2 P) (out_idle _ (by dsimp only; omega)) (out_noFlush _ (by dsimp only; omega))]
    obtain ⟨e0, e1⟩ := at2 m c P hI; subst e0; subst e1
    exact coreC m c P s2 s3 _ rfl
  refine (pre_to m c _).trans ?_
  unfold PhiS
  iintro ⟨⟨%s0, %s1, %s2, %s3, %hI, HS, Hg⟩, Hr⟩
  iapply (key s0 s1 s2 s3 hI)
  isplitl [HS]; · iexact HS
  isplitl [Hg]; · iexact Hg
  iexact Hr

end Cert.OddRun

end
-- ==== Proof.Odd.BodyD.lean ====
module

public import proofs.«01_k».proof.Proof.Odd.BodySet
public import Idealize.ShloMosaic.Lib.HeldBySlice

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (P : Fin 32)

set_option maxHeartbeats 4000000 in
/-- The body at point 3 of a row block, the run given. -/
theorem coreD (f) (r) (hr : r = rD m c P (ga m c P f)) :
    iprop((owns (c : Thread nD τ) scHn fullShare (hn m c P) ∗ owns (c : Thread nD τ) scV fullShare (vv m c P) ∗ owns (c : Thread nD τ) scSt fullShare (stat m c P) ∗ owns (c : Thread nD τ) scGa fullShare (ga m c P f)) ∗ (∃ r, prngReg c r) ∗ (dats m 0 c).owesAt () (pt3 P).castSucc
    ∗ owns (c : Thread nD τ) (st0 (pt3 P)) fullShare (iblk m c 0 (pt3 P))
    ∗ owns (c : Thread nD τ) (st1 (pt3 P)) fullShare (iblk m c 1 (pt3 P))
    ∗ owns (c : Thread nD τ) (st2 (pt3 P)) fullShare (iblk m c 2 (pt3 P))
    ∗ owns (c : Thread nD τ) (st3 (pt3 P)) fullShare (iblk m c 3 (pt3 P))
    ∗ owns (c : Thread nD τ) (st4 (pt3 P)) fullShare (iblk m c 4 (pt3 P))
    ∗ owns (c : Thread nD τ) (st5 (pt3 P)) fullShare (iblk m c 5 (pt3 P))
    ∗ owns (c : Thread nD τ) (st6 (pt3 P)) fullShare (iblk m c 6 (pt3 P))
    ∗ owns (c : Thread nD τ) (st7 (pt3 P)) fullShare (iblk m c 7 (pt3 P))
    ∗ (∃ d, owns (c : Thread nD τ) (st8 (pt3 P)) fullShare ((dats m 0 c).before 8 (pt3 P) d))) ⊢ wp frame (wpE (defs₀ (F := F)) Variants.none c none) Set.univ (bodyAt0 (pt3 P)) (fun _ =>
      iprop(PhiS m c ((pt3 P).val + 1) ∗ (dats m 0 c).owesAt () (pt3 P).castSucc
    ∗ owns (c : Thread nD τ) (st0 (pt3 P)) fullShare (iblk m c 0 (pt3 P))
    ∗ owns (c : Thread nD τ) (st1 (pt3 P)) fullShare (iblk m c 1 (pt3 P))
    ∗ owns (c : Thread nD τ) (st2 (pt3 P)) fullShare (iblk m c 2 (pt3 P))
    ∗ owns (c : Thread nD τ) (st3 (pt3 P)) fullShare (iblk m c 3 (pt3 P))
    ∗ owns (c : Thread nD τ) (st4 (pt3 P)) fullShare (iblk m c 4 (pt3 P))
    ∗ owns (c : Thread nD τ) (st5 (pt3 P)) fullShare (iblk m c 5 (pt3 P))
    ∗ owns (c : Thread nD τ) (st6 (pt3 P)) fullShare (iblk m c 6 (pt3 P))
    ∗ owns (c : Thread nD τ) (st7 (pt3 P)) fullShare (iblk m c 7 (pt3 P))
    ∗ owns (c : Thread nD τ) (st8 (pt3 P)) fullShare (outB m c P))) := by
  unfold PhiS bodyAt0
  iintro ⟨⟨HS0, HS1, HS2, HS3⟩, Hg, Ho, H0, H1, H2, H3, H4, H5, H6, H7, ⟨%d8, H8⟩⟩
  iapply (r.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, ⟨%e8, H8⟩, HS0, HS1, HS2, HS3⟩
  isplitl [HS0 HS1 HS2 HS3 Hg]
  · iexists hn m c P, vv m c P, stat m c P, (scGa.view.read (Elt F) (scGa.view.writes (Elt F) ((Memref.isWhole_whole _ : scGa.IsWhole).unread (ga m c P f)) r.2.1))
    isplitr; · ipureintro; exact inv4 m c P _ _ _ _
    isplitl [HS0 HS1 HS2 HS3]
    · isplitl [HS0]; · iexact HS0
      isplitl [HS1]; · iexact HS1
      isplitl [HS2]; · iexact HS2
      unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  exact out_of m c P f _ _ (congrArg PSigma.fst hr)

/-- The body at point 3 of a row block. -/
theorem bodyD : bodyPre m c (pt3 P) ⊢ wp frame (wpE (defs₀ (F := F)) Variants.none c none) Set.univ (bodyAt0 (pt3 P)) (fun _ => bodyPost m c (pt3 P)) := by
  have key : ∀ s0 s1 s2 s3, Inv m c (pt3 P).val s0 s1 s2 s3 → (iprop((owns (c : Thread nD τ) scHn fullShare s0 ∗ owns (c : Thread nD τ) scV fullShare s1 ∗ owns (c : Thread nD τ) scSt fullShare s2 ∗ owns (c : Thread nD τ) scGa fullShare s3) ∗ (∃ r, prngReg c r) ∗ (dats m 0 c).owesAt () (pt3 P).castSucc
    ∗ owns (c : Thread nD τ) (st0 (pt3 P)) fullShare (iblk m c 0 (pt3 P))
    ∗ owns (c : Thread nD τ) (st1 (pt3 P)) fullShare (iblk m c 1 (pt3 P))
    ∗ owns (c : Thread nD τ) (st2 (pt3 P)) fullShare (iblk m c 2 (pt3 P))
    ∗ owns (c : Thread nD τ) (st3 (pt3 P)) fullShare (iblk m c 3 (pt3 P))
    ∗ owns (c : Thread nD τ) (st4 (pt3 P)) fullShare (iblk m c 4 (pt3 P))
    ∗ owns (c : Thread nD τ) (st5 (pt3 P)) fullShare (iblk m c 5 (pt3 P))
    ∗ owns (c : Thread nD τ) (st6 (pt3 P)) fullShare (iblk m c 6 (pt3 P))
    ∗ owns (c : Thread nD τ) (st7 (pt3 P)) fullShare (iblk m c 7 (pt3 P))
    ∗ (∃ d, owns (c : Thread nD τ) (st8 (pt3 P)) fullShare ((dats m 0 c).before 8 (pt3 P) d))) ⊢ wp frame (wpE (defs₀ (F := F)) Variants.none c none) Set.univ (bodyAt0 (pt3 P)) (fun _ => bodyPost m c (pt3 P))) := fun s0 s1 s2 s3 hI => by
    rewrite [post_live m c P]
    obtain ⟨e0, e1, e2, f, e3⟩ := at3 m c P hI; subst e0; subst e1; subst e2; subst e3
    exact coreD m c P f _ rfl
  refine (pre_to m c _).trans ?_
  unfold PhiS
  iintro ⟨⟨%s0, %s1, %s2, %s3, %hI, HS, Hg⟩, Hr⟩
  iapply (key s0 s1 s2 s3 hI)
  isplitl [HS]; · iexact HS
  isplitl [Hg]; · iexact Hg
  iexact Hr

end Cert.OddRun

end
-- ==== Proof.Odd.Frame.lean ====
module

public import proofs.«01_k».proof.Proof.Odd.BodyA
public import proofs.«01_k».proof.Proof.Odd.BodyB
public import proofs.«01_k».proof.Proof.Odd.BodyC
public import proofs.«01_k».proof.Proof.Odd.BodyD
public import Idealize.ShloMosaic.Lib.HeldBySlice

@[expose] public section

set_option maxRecDepth 16384

noncomputable section

namespace Cert.OddRun

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (P : Fin 32)

/-- The body at any point. -/
theorem body_any (t : Fin cfg0.N) : bodyPre m c t ⊢ wp frame (wpE (defs₀ (F := F)) Variants.none c none) Set.univ (bodyAt0 t) (fun _ => bodyPost m c t) := by
  have hN : t.val < 128 := lt_of_lt_of_eq t.isLt (show cfg0.N = 128 from N_0)
  have h4 : t.val % 4 = 0 ∨ t.val % 4 = 1 ∨ t.val % 4 = 2 ∨ t.val % 4 = 3 := by omega
  rcases h4 with h | h | h | h
  · have e : t = pt0 ⟨t.val / 4, by omega⟩ := Fin.ext (by dsimp only; omega)
    rw [e]; exact bodyA m c _
  · have e : t = pt1 ⟨t.val / 4, by omega⟩ := Fin.ext (by dsimp only; omega)
    rw [e]; exact bodyB m c _
  · have e : t = pt2 ⟨t.val / 4, by omega⟩ := Fin.ext (by dsimp only; omega)
    rw [e]; exact bodyC m c _
  · have e : t = pt3 ⟨t.val / 4, by omega⟩ := Fin.ext (by dsimp only; omega)
    rw [e]; exact bodyD m c _

/-- The body table's row is the body. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation : BodyObligation (dats (F := F) m 0 c) (defs₀ (F := F)) Variants.none () Set.univ := fun t => by
  rw [bigSep_W0, bigSep_W0, row_eq]
  exact triple_restated (body_any m c t) rfl .rfl fun _ => .rfl

/-- The region is entered with the invariant. -/
theorem enter : Pipeline.ΦA spec0 c ⊢ (dats m 0 c).Φ 0 := by
  rw [show (dats m 0 c).Φ 0 = PhiS m c 0 from rfl, entry_eq]
  unfold PhiS
  iintro ⟨⟨⟨%s0, HS0⟩, ⟨%s1, HS1⟩, ⟨%s2, HS2⟩, ⟨%s3, HS3⟩⟩, Hg⟩
  iexists s0, s1, s2, s3
  isplitr; · ipureintro; exact inv0 m c 0 rfl _ _ _ _
  isplitl [HS0 HS1 HS2 HS3]
  · isplitl [HS0]; · iexact HS0
    isplitl [HS1]; · iexact HS1
    isplitl [HS2]; · iexact HS2
    iexact HS3
  iexact Hg

/-- And left with the scratch buffers at some contents. -/
theorem leave : (dats m 0 c).Φ (Fin.last cfg0.N) ⊢ Pipeline.ΦA spec0 c := by
  rw [show (dats m 0 c).Φ (Fin.last cfg0.N) = PhiS m c (Fin.last cfg0.N).val from rfl, entry_eq]
  unfold PhiS
  iintro ⟨%s0, %s1, %s2, %s3, -, ⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

variable (ρ : Dev nD → PrngReg)

set_option backward.isDefEq.respectTransparency.types false in
/-- Every run ends, with the arrays at what the pipeline computes from the proof data and the counters at zero. -/
theorem run_zero : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := fun c w => A_eq m c w)
    (hin := fun c => enter m c) (hout := fun c => leave m c)

/-- The same without the counters. -/
theorem run_post : θ_run defs (onTc (τ := τ) (main (F := F))) (s₀ m ρ) (Pipeline.FramePost cfgs (dats m) 0 (V m)) :=
  (θ_run defs _ _).mono (fun _ h => h.1) (run_zero m ρ)

end Cert.OddRun

end
-- ==== Proof.Odd.Result.lean ====
module

public import proofs.«01_k».proof.Proof.Odd.Out
public import proofs.«01_k».proof.Proof.Odd.Frame

@[expose] public section

set_option maxRecDepth 16384

noncomputable section

namespace Cert.OddRun

open Cert.OddIdeal Cert.OddIdeal.Gen Cert.OddSpec
open Idealize.ShloMosaic Idealize.ShloMosaic.TcCoe Idealize.SL.Sem

variable (m : (ℓ : Loc nD τ sig) → Buf (Elt Ideal) ℓ) (ρ : Dev nD → PrngReg)

/-- The output array after the run. -/
theorem final8 (c : Dev nD) : (dats m 0 c).arrAt 8 cfg0.N = G8 m c := by
  refine (dats m 0 c).arrAt_eq_of_covers 8 _ (by decide +kernel) fun t hf y => ?_
  have h3 : t.val % 4 = 3 := (flush0_8 t).mp hf
  have hlt := pt_lt t
  obtain ⟨P, rfl⟩ : ∃ P, t = pt3 P := ⟨⟨t.val / 4, by omega⟩, Fin.ext (by dsimp only; omega)⟩
  blk_simp
  rw [after8]
  obtain ⟨r, k, rfl⟩ : ∃ (r : Fin 512) (k : Fin 2048), y = ix2 r k := ⟨y 0, y 1, eq_ix2 y⟩
  have e : win0_8.index (pt3 P) = ![(pt3 P).val / 4, 0] := (idx (pt3 P)).2.2.2.2.2.2.2.2
  have e0 : ((win0_8.blk (pt3 P)).view.emb (ix2 r k)) 0 = row P r := Fin.ext (by
    show win0_8.index (pt3 P) 0 * 512 + 1 * r.val = 512 * P.val + r.val
    rw [e]
    show (4 * P.val + 3) / 4 * 512 + 1 * r.val = _
    omega)
  have e1 : ((win0_8.blk (pt3 P)).view.emb (ix2 r k)) 1 = k := Fin.ext (by
    show win0_8.index (pt3 P) 1 * 2048 + 1 * k.val = k.val
    rw [e]
    show 0 * 2048 + 1 * k.val = _
    omega)
  refine (outB_out m c P r k).trans ?_
  show _ = out _ _ _ _ _ _ _ _ (((win0_8.blk (pt3 P)).view.emb (ix2 r k)) 0) (((win0_8.blk (pt3 P)).view.emb (ix2 r k)) 1)
  rw [e0, e1]

/-- The run: the output array at the layer's rows, the arguments unchanged. -/
theorem run : θ_run defs (onTc (τ := τ) (main (F := Ideal))) ⟨m, fun _ => 0, ρ⟩ fun r => ∀ c : Dev nD,
      r.2.mem ((c : Thread nD τ).loc main_v12) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_post m ρ)

end Cert.OddRun
end
end
-- ==== Proof.Odd.Same.lean ====
module
public import proofs.«01_k».proof.Proof.Gen.Odd
public import proofs.«01_k».proof.Proof.Gen.OddIdeal
public import Idealize.ShloMosaic.Lib.Claim

@[expose] public section

namespace Cert.OddRun

set_option maxRecDepth 16384
open Idealize.ShloMosaic
variable {F : FTy → Type} [FloatOps F]
/-- The mixer's body is the same text at bits and over the ideal numbers. -/
theorem body_eq : @Odd.cc0_odd_mixer F _ _ = @OddIdeal.cc0_odd_mixer F _ _ := rfl
/-- So are the tables of bodies. -/
theorem defs₀_eq : Odd.defs₀ (F := F) = OddIdeal.defs₀ (F := F) := by
  unfold Odd.defs₀ OddIdeal.defs₀
  apply congrArg (Defs.onTc (nD := Odd.nD) (τ := Odd.τ))
  funext l
  match l with
  | ⟨0, _⟩ =>
    funext ⟨t, s⟩
    show Odd.cc0_odd_mixer (F := F) _ _ _ _ _ _ _ _ _ _ _ _ _ _ _ _ _ _ _ _ _ _ _ _ _ _ _ = _
    rw [body_eq]
    rfl
/-- So are the tables with the pipeline. -/
theorem defs_eq : Odd.defs (F := F) = OddIdeal.defs (F := F) := by
  unfold Odd.defs OddIdeal.defs
  rw [defs₀_eq]
  rfl

/-- So are the programs. -/
theorem main_eq : Odd.main (F := F) = OddIdeal.main (F := F) := by
  unfold Odd.main OddIdeal.main
  rfl

/-- What the ideal text's run does, the other text's run does. -/
theorem run_same (σ : MemSt Odd.nD Odd.τ Odd.sig (Elt F)) (post : (PUnit × MemSt Odd.nD Odd.τ Odd.sig (Elt F)) → Prop)
    (h : θ_run OddIdeal.defs (onTc (τ := OddIdeal.τ) (OddIdeal.main (F := F))) σ post) :
    θ_run Odd.defs (onTc (τ := Odd.τ) (Odd.main (F := F))) σ post := by
  rw [defs_eq, main_eq]
  exact h

end Cert.OddRun

end
-- ==== Proof.Odd.RefRows.lean ====
module

public import proofs.«01_k».proof.Proof.Odd.Spec
public import proofs.«01_k».proof.Proof.Gen.OddRefIdeal.Read
public import Idealize.ShloMosaic.Lib.Pointwise
public import Idealize.ShloMosaic.Lib.Pipeline.ValueKit

@[expose] public section

set_option maxRecDepth 16384

noncomputable section

namespace Cert.OddRefIdeal.Rows

open Cert.OddRefIdeal Cert.OddRefIdeal.Read Idealize.ShloMosaic Cert.OddSpec

variable (x0 : Vec Ideal S4x4096x2048 .f32) (x1 : Vec Ideal S1x2048 .f32) (x2 : Vec Ideal S1x2048x4096 .f32)
  (x3 x4 : Vec Ideal S1x2048 .f32) (x5 : Vec Ideal S1x8x128x128 .f32) (x6 : Vec Ideal S1x8x128 .f32)
  (x7 : Vec Ideal S1x2048x2048 .f32)

/-- The normalized input rows. -/
theorem norm_apply (b : Fin 4) (s : Fin 4096) (k : Fin 2048) :
    val_main_v13 x0 x1 (ix3 b s k) = FfnSpec.rms (fun j => x0 (ix3 b s j)) (fun j => x1 (ix2 0 j)) k := by
  unfold FfnSpec.rms
  pointwise [val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]

/-- The GELU through the complementary error function. -/
theorem gelu_eq (z : EReal) : Ideal.ofBits .f32 0x3F000000#32 * z * Ideal.erfc (-z * Ideal.ofBits .f32 0x3F3504F3#32) = gelu z := by
  unfold gelu
  rw [EReal.neg_mul, Ideal.erfc_neg, add_comm 1, mul_comm (Ideal.ofBits .f32 0x3F000000#32), mul_assoc, mul_assoc,
    mul_comm (Ideal.ofBits .f32 0x3F000000#32)]

/-- The projection through the GELU. -/
theorem gelu_apply (b : Fin 4) (s : Fin 4096) (f : Fin 4096) : val_main_v27 x0 x1 x2 (ix3 b s f)
    = gelu (∑ j : Fin 2048, FfnSpec.rms (fun j => x0 (ix3 b s j)) (fun j => x1 (ix2 0 j)) j * x2 (ix3 0 j f)) := by
  rw [← gelu_eq]
  pointwise [val_main_v27, val_main_v26, val_main_v25, val_main_v24, val_main_v23, val_main_v22, val_main_v21, val_main_v20,
    val_main_v14, val_main_cst_2, val_main_cst_3, norm_apply]

/-- A sum over 2048 divided by 2048 is the mean of the two halves. -/
theorem mean_eq (v : Fin 2048 → EReal) : Ideal.div (∑ j, v j) (Ideal.ofBits .f32 0x45000000#32) = mean v := by
  have e1 : Ideal.ofBits .f32 0x45000000#32 = ((2048 : ℝ) : EReal) := by
    simp [Ideal.ofBits, Ideal.ieee]
    rw [← EReal.coe_mul]
    norm_num
  have e2 : Ideal.ofBits .f32 0x3A000000#32 = ((1 / 2048 : ℝ) : EReal) := by
    simp [Ideal.ofBits, Ideal.ieee]
    rw [← EReal.coe_mul]
    norm_num
  rw [mean, e1, e2, Ideal.div_coe (by norm_num)]
  congr 1
  exact Fin.sum_univ_add (a := 1024) (b := 1024) v

/-- The normalised value rows. -/
theorem ln_apply (b : Fin 4) (s : Fin 4096) (f : Fin 2048) : val_main_v53 x0 x1 x2 x3 x4 (ix3 b s f)
    = ln (vRow (fun j => x0 (ix3 b s j)) (fun j => x1 (ix2 0 j)) (fun j f => x2 (ix3 0 j f))) (fun j => x3 (ix2 0 j)) (fun j => x4 (ix2 0 j)) f := by
  unfold ln vRow
  rw [← mean_eq, ← mean_eq]
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v15, val_main_v16,
    val_main_cst_4, val_main_cst_5, val_main_cst_6, val_main_cst_7, val_main_cst_8, gelu_apply]

/-- The masked mixing weights. -/
theorem tril_apply (g : Fin 8) (p s : Fin 128) : val_main_v55 x5 (ix3 g p s) = if s.val ≤ p.val then x5 (ix4 0 g p s) else 0 := by
  pointwise [val_main_v55, val_main_call0_v6, val_main_call0_cst, val_main_call0_v5, val_main_call0_v4, val_main_call0_v3,
    val_main_call0_v2, val_main_call0_v1, val_main_call0_c, val_main_call0_v0, val_main_v17]
  rw [show IntOp.addi (BitVec.ofNat 32 p.val) 0#32 = BitVec.ofNat 32 p.val from BitVec.add_zero _]
  exact tri p s _ _

/-- The mixed values. -/
theorem mix_apply (b : Fin 4) (n : Fin 32) (p : Fin 128) (g : Fin 8) (q : Fin 256) :
    val_main_v61 x0 x1 x2 x3 x4 x5 x6 (ix5 b n p g q)
      = ∑ s : Fin 128, (if s.val ≤ p.val then x5 (ix4 0 g p s) else 0)
          * ln (vRow (fun j => x0 (ix3 b ⟨n.val * 128 + s.val, by omega⟩ j)) (fun j => x1 (ix2 0 j)) (fun j f => x2 (ix3 0 j f)))
              (fun j => x3 (ix2 0 j)) (fun j => x4 (ix2 0 j)) ⟨g.val * 256 + q.val, by omega⟩ + x6 (ix3 0 g p) := by
  pointwise [val_main_v61, val_main_v60, val_main_v59, val_main_v58, val_main_v57, val_main_v56, val_main_v54, val_main_v18, tril_apply, ln_apply]
  exact congrArg (· + x6 (ix3 0 g p)) (Finset.sum_congr rfl fun s _ => mul_comm _ _)

/-- The reference's result at one entry. -/
theorem result_apply (R : Fin 16384) (k : Fin 2048) :
    val_main_v66 x0 x1 x2 x3 x4 x5 x6 x7 (ix2 R k)
      = out (fun R j => x0 (ix3 ⟨R.val / 4096, by omega⟩ ⟨R.val % 4096, by omega⟩ j)) (fun j => x1 (ix2 0 j))
          (fun j f => x2 (ix3 0 j f)) (fun j => x3 (ix2 0 j)) (fun j => x4 (ix2 0 j)) (fun g p s => x5 (ix4 0 g p s))
          (fun g p => x6 (ix3 0 g p)) (fun f k => x7 (ix3 0 f k)) R k := by
  unfold out gate uRow
  pointwise [val_main_v66, val_main_v65, val_main_v64, val_main_v63, val_main_v62, val_main_v28, val_main_v19, mix_apply, gelu_apply]
  have a : R.val % 4096 % 128 = R.val % 128 := by omega
  have b : ∀ s : Fin 128, (128 * (R.val / 128) + s.val) / 4096 = R.val / 4096 := fun s => by omega
  have d : ∀ s : Fin 128, (128 * (R.val / 128) + s.val) % 4096 = R.val % 4096 / 128 * 128 + s.val := fun s => by omega
  simp only [a, b, d, Nat.div_add_mod', Fin.eta]

end Cert.OddRefIdeal.Rows

end
end
-- ==== Proof.Odd.Claim.lean ====
module

public import proofs.«01_k».proof.Defs
public import proofs.«01_k».proof.Proof.Gen.Odd
public import proofs.«01_k».proof.Proof.Gen.OddRefIdeal.Run
public import proofs.«01_k».proof.Proof.Odd.Result
public import proofs.«01_k».proof.Proof.Odd.Same
public import proofs.«01_k».proof.Proof.Odd.RefRows
public import Idealize.ShloMosaic.Lib.Claim
public import Idealize.ShloMosaic.Lib.Quiescent
public import Idealize.ShloMosaic.Adequacy
public import Idealize.ShloMosaic.Init

@[expose] public section

set_option maxRecDepth 16384

noncomputable section

namespace Cert.OddClaim

open Idealize.ShloMosaic Idealize.ShloMosaic.TcCoe Idealize.SL.Sem
open Cert.OddIdeal.Gen Cert.OddRun

/-- The mixer's run at any number type: the arguments unchanged, the semaphores at zero. -/
theorem kept {F : FTy → Type} [FloatOps F] (m : (ℓ : Loc Cert.OddIdeal.nD Cert.OddIdeal.τ Cert.OddIdeal.sig) → Buf (Elt F) ℓ)
    (ρ : Dev Cert.OddIdeal.nD → PrngReg) :
    θ_run Cert.OddIdeal.defs (onTc (τ := Cert.OddIdeal.τ) (Cert.OddIdeal.main (F := F))) ⟨m, fun _ => 0, ρ⟩ fun r =>
      (∀ c : Dev Cert.OddIdeal.nD,
        r.2.mem ((c : Thread Cert.OddIdeal.nD Cert.OddIdeal.τ).loc Cert.OddIdeal.main_arg0) = m ((c : Thread Cert.OddIdeal.nD Cert.OddIdeal.τ).loc Cert.OddIdeal.main_arg0) ∧
        r.2.mem ((c : Thread Cert.OddIdeal.nD Cert.OddIdeal.τ).loc Cert.OddIdeal.main_arg1) = m ((c : Thread Cert.OddIdeal.nD Cert.OddIdeal.τ).loc Cert.OddIdeal.main_arg1) ∧
        r.2.mem ((c : Thread Cert.OddIdeal.nD Cert.OddIdeal.τ).loc Cert.OddIdeal.main_arg2) = m ((c : Thread Cert.OddIdeal.nD Cert.OddIdeal.τ).loc Cert.OddIdeal.main_arg2) ∧
        r.2.mem ((c : Thread Cert.OddIdeal.nD Cert.OddIdeal.τ).loc Cert.OddIdeal.main_arg3) = m ((c : Thread Cert.OddIdeal.nD Cert.OddIdeal.τ).loc Cert.OddIdeal.main_arg3) ∧
        r.2.mem ((c : Thread Cert.OddIdeal.nD Cert.OddIdeal.τ).loc Cert.OddIdeal.main_arg4) = m ((c : Thread Cert.OddIdeal.nD Cert.OddIdeal.τ).loc Cert.OddIdeal.main_arg4) ∧
        r.2.mem ((c : Thread Cert.OddIdeal.nD Cert.OddIdeal.τ).loc Cert.OddIdeal.main_arg5) = m ((c : Thread Cert.OddIdeal.nD Cert.OddIdeal.τ).loc Cert.OddIdeal.main_arg5) ∧
        r.2.mem ((c : Thread Cert.OddIdeal.nD Cert.OddIdeal.τ).loc Cert.OddIdeal.main_arg6) = m ((c : Thread Cert.OddIdeal.nD Cert.OddIdeal.τ).loc Cert.OddIdeal.main_arg6) ∧
        r.2.mem ((c : Thread Cert.OddIdeal.nD Cert.OddIdeal.τ).loc Cert.OddIdeal.main_arg7) = m ((c : Thread Cert.OddIdeal.nD Cert.OddIdeal.τ).loc Cert.OddIdeal.main_arg7))
      ∧ r.2.sem = fun _ => 0 :=
  θ_run_and (frame_of m ρ (dats m) (fun c w => A_eq m c w) (run_post m ρ)) ((θ_run Cert.OddIdeal.defs _ _).mono (fun _ h => h.2) (run_zero m ρ))

/-- The ideal mixer's frame. -/
theorem frame_ideal : Cert.quiescent_OddIdeal := fun m ρ _ => kept m ρ

/-- The mixer's frame: the same text run at bits. -/
theorem frame : Cert.quiescent_Odd := fun m ρ _ => run_same _ _ (kept (F := Bits) m ρ)

/-- The reference's frame. -/
theorem frame_ref : Cert.quiescent_OddRefIdeal := fun m ρ _ =>
  (θ_run Cert.OddRefIdeal.defs _ _).mono (fun r h => ⟨fun c => (h c).2, sem_eq_zero_of_no_sems rfl r.2⟩)
    (Cert.OddRefIdeal.Value.run m ρ)

/-- The two programs' results are one function of equal arguments. -/
theorem results_eq (m : (ℓ : Loc Cert.OddIdeal.nD Cert.OddIdeal.τ Cert.OddIdeal.sig) → Buf (Elt Ideal) ℓ)
    (c : Dev Cert.OddIdeal.nD) :
    Cert.OddRefIdeal.Read.val_main_v66 (F := Ideal)
      (m ((c : Thread Cert.OddIdeal.nD Cert.OddIdeal.τ).loc Cert.OddIdeal.main_arg0))
      (m ((c : Thread Cert.OddIdeal.nD Cert.OddIdeal.τ).loc Cert.OddIdeal.main_arg1))
      (m ((c : Thread Cert.OddIdeal.nD Cert.OddIdeal.τ).loc Cert.OddIdeal.main_arg2))
      (m ((c : Thread Cert.OddIdeal.nD Cert.OddIdeal.τ).loc Cert.OddIdeal.main_arg3))
      (m ((c : Thread Cert.OddIdeal.nD Cert.OddIdeal.τ).loc Cert.OddIdeal.main_arg4))
      (m ((c : Thread Cert.OddIdeal.nD Cert.OddIdeal.τ).loc Cert.OddIdeal.main_arg5))
      (m ((c : Thread Cert.OddIdeal.nD Cert.OddIdeal.τ).loc Cert.OddIdeal.main_arg6))
      (m ((c : Thread Cert.OddIdeal.nD Cert.OddIdeal.τ).loc Cert.OddIdeal.main_arg7)) = G8 m c := by
  funext i
  obtain ⟨r, k, rfl⟩ : ∃ (r : Fin 16384) (k : Fin 2048), i = ix2 r k := ⟨i 0, i 1, eq_ix2 i⟩
  exact Cert.OddRefIdeal.Rows.result_apply _ _ _ _ _ _ _ _ r k

/-- The ideal mixer computes the reference's function. -/
theorem algebraic : Cert.algebraic_OddIdeal_OddRefIdeal := by
  pair_intro
  · run_from Cert.OddRun.run m g
  · hlo_run
    exact results_eq m c

end Cert.OddClaim

end
end
-- ==== Proof.In.Spec.lean ====
/- The even layer's input projection as plain sums: the normalised row through the matrix's first 5376 columns, and
   through its last 16, the last eight of them twice, filled with zeros to 128. -/
module

public import proofs.«01_k».proof.Proof.Ffn.Spec

@[expose] public section

noncomputable section

namespace Cert.InSpec

open Idealize.ShloMosaic

/-- One column of a row `a`'s product with the matrix. -/
def dot (a : Fin 2048 → EReal) (w : Fin 2048 → Fin 5392 → EReal) (f : Fin 5392) : EReal := ∑ k : Fin 2048, a k * w k f

/-- Gate `q`'s column of the matrix. -/
def gcol (q : Fin 128) (h : q.val < 24) : Fin 5392 := ⟨if q.val < 16 then 5376 + q.val else 5368 + q.val, by split <;> omega⟩

/-- The first sixteen gates' columns. -/
theorem gcol_lo (q : Fin 128) (h : q.val < 24) (h16 : q.val < 16) : (gcol q h).val = 5376 + q.val := if_pos h16

/-- The last eight's. -/
theorem gcol_hi (q : Fin 128) (h : q.val < 24) (h16 : ¬q.val < 16) : (gcol q h).val = 5368 + q.val := if_neg h16

/-- Gate `q` of a row `a`, nothing past the 24. -/
def gate (a : Fin 2048 → EReal) (w : Fin 2048 → Fin 5392 → EReal) (q : Fin 128) : EReal :=
  if h : q.val < 24 then dot a w (gcol q h) else 0

/-- The gates' matrix at an entry. -/
def wgate (w : Fin 2048 → Fin 5392 → EReal) (k : Fin 2048) (q : Fin 128) : EReal :=
  if h : q.val < 24 then w k (gcol q h) else 0

/-- A row through the gates' matrix is the row's gates. -/
theorem sum_wgate (a : Fin 2048 → EReal) (w : Fin 2048 → Fin 5392 → EReal) (q : Fin 128) :
    ∑ k : Fin 2048, a k * wgate w k q = gate a w q := by
  unfold gate wgate dot
  by_cases h : q.val < 24
  · simp only [dif_pos h]
  · simp only [dif_neg h, mul_zero, Finset.sum_const_zero]

end Cert.InSpec

end
end
-- ==== Proof.In.Gates.lean ====
/- The arrays the input projection's host lines make. -/
module

public import proofs.«01_k».proof.Proof.Gen.InIdeal.Frame
public import proofs.«01_k».proof.Proof.In.Spec
public import Idealize.ShloMosaic.Lib.Pointwise
public import Idealize.ShloMosaic.Lib.Pipeline.ValueKit

@[expose] public section

set_option maxRecDepth 16384

noncomputable section

namespace Cert.InRun

open Cert.InIdeal Cert.InIdeal.Gen Cert.InSpec
open Idealize.ShloMosaic Idealize.ShloMosaic.TcCoe

variable (m : (ℓ : Loc nD τ sig) → Buf (Elt Ideal) ℓ) (c : Dev nD)

/-- The integer zero as a number. -/
theorem sitofp_zero : (FloatOps.sitofp FTy.f32 (0#32) : Ideal FTy.f32) = (0 : EReal) := by
  show (((0#32 : BitVec 32).toInt : ℝ) : EReal) = 0
  simp

/-- The padded matrix's entry, case by case. -/
theorem wgate_cases (x : Vec Ideal S1x2048x5392 .f32) (k : Fin 2048) (q : Fin 128) :
    (if h : q.val < 24 then
      if h1 : q.val < 16 then x (ix3 0 k ⟨5376 + q.val, by omega⟩)
      else x (ix3 0 k ⟨5376 + (8 + (q.val - 16)), by omega⟩)
    else (FloatOps.sitofp FTy.f32 (0#32) : Ideal FTy.f32)) = wgate (fun k f => x (ix3 0 k f)) k q := by
  unfold wgate
  by_cases h24 : q.val < 24
  · rw [dif_pos h24, dif_pos h24]
    by_cases h16 : q.val < 16
    · rw [dif_pos h16]
      exact congrArg (fun f => x (ix3 0 k f)) (Fin.ext (gcol_lo q h24 h16).symm)
    · rw [dif_neg h16]
      exact congrArg (fun f => x (ix3 0 k f))
        (Fin.ext ((show 5376 + (8 + (q.val - 16)) = 5368 + q.val by omega).trans (gcol_hi q h24 h16).symm))
  · rw [dif_neg h24, dif_neg h24]
    exact sitofp_zero

end Cert.InRun
end
end
-- ==== Proof.In.Host.lean ====
/- The arrays the input projection's host lines make. -/
module

public import proofs.«01_k».proof.Proof.Gen.InIdeal.Frame
public import proofs.«01_k».proof.Proof.In.Gates
public import Idealize.ShloMosaic.Lib.Pointwise
public import Idealize.ShloMosaic.Lib.Pipeline.ValueKit

@[expose] public section

set_option maxRecDepth 16384

noncomputable section

namespace Cert.InRun

open Cert.InIdeal Cert.InIdeal.Gen Cert.InSpec
open Idealize.ShloMosaic Idealize.ShloMosaic.TcCoe

variable (m : (ℓ : Loc nD τ sig) → Buf (Elt Ideal) ℓ) (c : Dev nD)

/-- The residual rows as the region finds them. -/
theorem entry6 (R : Fin 16384) (k : Fin 2048) : (V m c main_v6 : Vec Ideal S16384x2048 .f32) (ix2 R k)
    = m ((c : Thread nD τ).loc main_arg0) (ix3 ⟨R.val / 4096, by omega⟩ ⟨R.val % 4096, by omega⟩ k) := by
  simp only [V, List.flatten_cons, List.flatten_nil, List.append_nil, List.cons_append, List.nil_append]
  entry_read
  pointwise

/-- The gain. -/
theorem entry8 (k : Fin 2048) : (V m c main_v8 : Vec Ideal S1x2048 .f32) (ix2 0 k)
    = m ((c : Thread nD τ).loc main_arg1) (ix2 0 k) := by
  simp only [V, List.flatten_cons, List.flatten_nil, List.append_nil, List.cons_append, List.nil_append]
  entry_read
  pointwise

/-- The matrix. -/
theorem entry10 (k : Fin 2048) (f : Fin 5392) : (V m c main_v10 : Vec Ideal S2048x5392 .bf16) (ix2 k f)
    = m ((c : Thread nD τ).loc main_arg2) (ix3 0 k f) := by
  simp only [V, List.flatten_cons, List.flatten_nil, List.append_nil, List.cons_append, List.nil_append]
  entry_read
  pointwise

/-- The gates' matrix. -/
theorem entry5 (k : Fin 2048) (q : Fin 128) : (V m c main_v5 : Vec Ideal S2048x128 .bf16) (ix2 k q)
    = wgate (fun k f => m ((c : Thread nD τ).loc main_arg2) (ix3 0 k f)) k q := by
  refine Eq.trans ?_ (wgate_cases (m ((c : Thread nD τ).loc main_arg2)) k q)
  simp only [V, List.flatten_cons, List.flatten_nil, List.append_nil, List.cons_append, List.nil_append]
  entry_read
  simp only [StableHlo.TRef.toBuf, StableHlo.TRef.ofBuf, cast_eq]
  pointwise

end Cert.InRun
end
end
-- ==== Proof.In.Blocks.lean ====
/- The input projection's blocks, as parts of the arguments. -/
module

public import proofs.«01_k».proof.Proof.In.Spec
public import proofs.«01_k».proof.Proof.In.Host
public import proofs.«01_k».proof.Proof.Gen.InIdeal.Skeleton
public import Idealize.ShloMosaic.Lib.Pointwise
public import Idealize.ShloMosaic.Lib.Pipeline.ValueKit

@[expose] public section

set_option maxRecDepth 16384

noncomputable section

namespace Cert.InRun

open Cert.InIdeal Cert.InIdeal.Gen Cert.InSpec
open Idealize.ShloMosaic Idealize.ShloMosaic.TcCoe

/-- The normalised rows at one entry. -/
theorem pay1_apply (x : Vec Ideal S1024x2048 .f32) (g : Vec Ideal S1x2048 .f32) (r : Fin 1024) (k : Fin 2048) :
    k0_pay1 x g (ix2 r k) = FfnSpec.rms (fun j => x (ix2 r j)) (fun j => g (ix2 0 j)) k := by
  unfold FfnSpec.rms
  pointwise [k0_pay1]

/-- The same as the scratch keeps them. -/
theorem pay2_apply (x : Vec Ideal S1024x2048 .f32) (g : Vec Ideal S1x2048 .f32) (r : Fin 1024) (k : Fin 2048) :
    k0_pay2 x g (ix2 r k) = FfnSpec.rms (fun j => x (ix2 r j)) (fun j => g (ix2 0 j)) k := by
  pointwise [k0_pay2, pay1_apply]

/-- The gates' block at one entry. -/
theorem pay3_apply (x : Vec Ideal S1024x2048 .f32) (g : Vec Ideal S1x2048 .f32) (w : Vec Ideal S2048x128 .bf16) (r : Fin 1024) (q : Fin 128) :
    k0_pay3 x g w (ix2 r q) = ∑ k : Fin 2048, FfnSpec.rms (fun j => x (ix2 r j)) (fun j => g (ix2 0 j)) k * w (ix2 k q) := by
  pointwise [k0_pay3, pay1_apply]

/-- The projection's block at one entry. -/
theorem pay4_apply (h : Vec Ideal S1024x2048 .bf16) (w : Vec Ideal S2048x1792 .bf16) (r : Fin 1024) (l : Fin 1792) :
    k0_pay4 h w (ix2 r l) = ∑ k : Fin 2048, h (ix2 r k) * w (ix2 k l) := by
  pointwise [k0_pay4]

variable (m : (ℓ : Loc nD τ sig) → Buf (Elt Ideal) ℓ) (c : Dev nD)

/-- Every point lies in the grid of 16 row blocks by 3 points. -/
theorem pt_lt (t : Fin cfg0.N) : t.val < 48 := t.isLt

/-- The blocks' indices at a point, window by window. -/
theorem idx : ∀ t : Fin grid0.N, win0_0.index t = ![t.val / 3, 0] ∧ win0_1.index t = ![0, 0]
    ∧ win0_2.index t = ![0, t.val % 3] ∧ win0_3.index t = ![0, 0] ∧ win0_4.index t = ![t.val / 3, t.val % 3]
    ∧ win0_5.index t = ![t.val / 3, 0] := by decide +kernel

/-- The residual rows. -/
def xs (R : Fin 16384) (k : Fin 2048) : EReal := m ((c : Thread nD τ).loc main_arg0)
  (ix3 ⟨R.val / 4096, by omega⟩ ⟨R.val % 4096, by omega⟩ k)

/-- The gain. -/
def gs (k : Fin 2048) : EReal := m ((c : Thread nD τ).loc main_arg1) (ix2 0 k)

/-- The matrix. -/
def ws (k : Fin 2048) (f : Fin 5392) : EReal := m ((c : Thread nD τ).loc main_arg2) (ix3 0 k f)

/-- Row `r` of point `t`'s block. -/
def row (t : Fin cfg0.N) (r : Fin 1024) : Fin 16384 := ⟨1024 * (t.val / 3) + r.val, by have := pt_lt t; omega⟩

/-- The residual rows of a point. -/
theorem blk0 (t : Fin cfg0.N) (r : Fin 1024) (k : Fin 2048) : iblk m c 0 t (ix2 r k) = xs m c (row t r) k := by
  refine Eq.trans ?_ (entry6 m c (row t r) k)
  unfold row
  blk_ext [iblk, idx t]

/-- The gain's block. -/
theorem blk1 (t : Fin cfg0.N) (k : Fin 2048) : iblk m c 1 t (ix2 0 k) = gs m c k := by
  refine Eq.trans ?_ (entry8 m c k)
  blk_ext [iblk, idx t]

/-- The matrix's columns of a point. -/
theorem blk2 (t : Fin cfg0.N) (k : Fin 2048) (l : Fin 1792) :
    X0_2 m c t (ix2 k l) = ws m c k ⟨1792 * (t.val % 3) + l.val, by omega⟩ := by
  unfold X0_2 Pipeline.Window.fill
  rw [dif_pos (moved0_2 t (ix2 k l))]
  refine Eq.trans ?_ (entry10 m c k _)
  blk_ext [iblk, idx t]

/-- The gates' matrix. -/
theorem blk3 (t : Fin cfg0.N) (k : Fin 2048) (q : Fin 128) : iblk m c 3 t (ix2 k q) = wgate (ws m c) k q := by
  refine Eq.trans ?_ (entry5 m c k q)
  blk_ext [iblk, idx t]

end Cert.InRun
end
end
-- ==== Proof.In.Runs.lean ====
/- The even layer's input projection: one grid step's run, at the first step of a row block and at the others. -/
module

public import proofs.«01_k».proof.Proof.Gen.InIdeal.Frame
public import proofs.«01_k».proof.Proof.Gen.InIdeal.Skeleton
public import Idealize.ShloMosaic.Lib.VecWindow

@[expose] public section

set_option maxRecDepth 16384

noncomputable section

namespace Cert.InRun

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a whole buffer at known contents reads them. -/
theorem ld {sp : Space} {s : Shape} {e : EltTy} (a : Memref sig .tc sp s e) (ha : a.IsWhole) (x : Vec F s e)
    {off : Fin s.rank → ℕ} (inb : ∀ a, off a + s.size a ≤ s.size a) :
    a.view.readAt (Elt F) (Rect.unit off s.size inb).toLoadRect (ha.unread x) = x :=
  (View.readAt_full _ _ _).trans (ha.read_unread x)

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1792 .bf16) (harg4 : arg4.IsWhole)
  (arg5 : Memref sig .tc .vmem S2048x128 .bf16) (harg5 : arg5.IsWhole)
  (arg6 : Memref sig .tc .vmem S1024x1792 .f32) (harg6 : arg6.IsWhole)
  (arg7 : Memref sig .tc .vmem S1024x128 .f32) (harg7 : arg7.IsWhole)
  (arg8 : Memref sig .tc .vmem S1024x2048 .bf16) (harg8 : arg8.IsWhole)
  (x0 : Vec F S1024x2048 .f32) (x1 : Vec F S1x2048 .f32) (x2 : Vec F S2048x1792 .bf16) (x3 : Vec F S2048x128 .bf16)

set_option maxHeartbeats 2000000 in
/-- At the first step of a row block the normalised rows go to the scratch, the gates' product to its block, and the
    projection's product to its own. -/
theorem runFirst (hc : k0_cond1 i = 1#1) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ (∃ d, owns (c : Thread nD τ) arg6 fullShare d)
      ∗ (∃ d, owns (c : Thread nD τ) arg7 fullShare d)
      ∗ (∃ d, owns (c : Thread nD τ) arg8 fullShare d)
      ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare (k0_pay4 (k0_pay2 x0 x1) x2)
        ∗ owns (c : Thread nD τ) arg7 fullShare (k0_pay3 x0 x1 x3)
        ∗ owns (c : Thread nD τ) arg8 fullShare (k0_pay2 x0 x1)) -∗ K ⟨⟩))
    ⊢ wp frame (wpE (defs₀ (F := F)) Variants.none c none) E (cc0_norm_proj_even i arg2 harg2 arg3 harg3 arg4 harg4 arg5 harg5 arg6 harg6 arg7 harg7 arg8 harg8) K := by
  simp only [cc0_norm_proj_even_eq_skeleton]; unfold cc0_norm_proj_even_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0
  obtain rfl := harg3.eq_unread hf1
  obtain rfl := harg4.eq_unread hf2
  obtain rfl := harg5.eq_unread hf3
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans ?_
    unfold runFirst.sl.v3 runFirst.sl.H6_1
    exact congrArg₂ k0_pay4 ((View.readCov_full _ _ _ _ _).trans (congrArg₂ k0_pay2 (ld _ _ _ _) (ld _ _ _ _))) (ld _ _ _ _)
  isplitl [H5]
  · iexists _; isplitr
    swap; · iexact H5
    ipureintro
    refine (View.read_writes_full _ _ _ _ _).trans ?_
    rw [ld arg2, ld arg3, ld arg5]
  iexists _; isplitr
  swap; · iexact H6
  ipureintro
  unfold runFirst.sl.H6_1
  exact (View.read_writes_full _ _ _ _ _).trans (congrArg₂ k0_pay2 (ld _ _ _ _) (ld _ _ _ _))

set_option maxHeartbeats 2000000 in
/-- At the other steps the projection's product is stored, of the rows the scratch holds; the gates' block is not touched. -/
theorem runNext (hc : ¬k0_cond1 i = 1#1) (x5 : Vec F S1024x128 .f32) (h : Vec F S1024x2048 .bf16) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ (∃ d, owns (c : Thread nD τ) arg6 fullShare d)
      ∗ owns (c : Thread nD τ) arg7 fullShare x5
      ∗ owns (c : Thread nD τ) arg8 fullShare h
      ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare (k0_pay4 h x2)
        ∗ owns (c : Thread nD τ) arg7 fullShare x5
        ∗ owns (c : Thread nD τ) arg8 fullShare h) -∗ K ⟨⟩))
    ⊢ wp frame (wpE (defs₀ (F := F)) Variants.none c none) E (cc0_norm_proj_even i arg2 harg2 arg3 harg3 arg4 harg4 arg5 harg5 arg6 harg6 arg7 harg7 arg8 harg8) K := by
  simp only [cc0_norm_proj_even_eq_skeleton]; unfold cc0_norm_proj_even_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg7.eq_unread hf5
  obtain rfl := harg8.eq_unread hf6
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans ?_
    exact congrArg₂ k0_pay4 (ld _ _ _ _) (ld _ _ _ _)
  isplitl [H5]
  · iexists _; isplitr; · ipureintro; exact harg7.read_unread _
    iexact H5
  iexists _; isplitr; · ipureintro; exact harg8.read_unread _
  iexact H6

end Cert.InRun

end
end
-- ==== Proof.In.Region.lean ====
/- The even layer's input projection: what the buffers hold between grid steps, and the run of the whole call. -/
module

public import proofs.«01_k».proof.Proof.In.Runs

@[expose] public section

set_option maxRecDepth 16384

noncomputable section

namespace Cert.InRun

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch that keeps a row block's normalised rows between its three steps. -/
abbrev scHn : Memref sig .tc .vmem S1024x2048 .bf16 := Memref.whole cc0_scratch0

/-- The first branch runs at the points divisible by three. -/
theorem first_iff : ∀ t : Fin cfg0.N, k0_cond1 (grid0.coords t) = 1#1 ↔ t.val % 3 = 0 :=
  (by decide +kernel : ∀ t : Fin grid0.N, k0_cond1 (grid0.coords t) = 1#1 ↔ t.val % 3 = 0)
/-- The gates' window is live there. -/
theorem first_live : ∀ t : Fin cfg0.N, t.val % 3 = 0 → cfg0.idle 5 (grid0.coords t) = false := by decide +kernel
/-- And idle at the other points. -/
theorem next_idle : ∀ t : Fin cfg0.N, t.val % 3 ≠ 0 → cfg0.idle 5 (grid0.coords t) = true := by decide +kernel

/-- What the region is handed beside the windows: the scratch at any contents. -/
theorem entry_eq (c : Dev nD) :
    (Pipeline.ΦA spec0 c : sProp 𝕄) = iprop((∃ d, owns (c : Thread nD τ) scHn fullShare d) ∗ (∃ r, prngReg c r)) := by
  unfold Pipeline.ΦA; rw [scopedRest0_eq]; simp only [scHn, owns_whole]; try rfl

variable (m : (ℓ : Loc nD τ sig) → Buf (Elt F) ℓ) (c : Dev nD)

/-- The first point of a point's row block. -/
abbrev base (t : Fin cfg0.N) : Fin cfg0.N := ⟨3 * (t.val / 3), lt_of_le_of_lt (Nat.mul_div_le _ _) t.isLt⟩

theorem base_first (t : Fin cfg0.N) (h : t.val % 3 = 0) : base t = t := Fin.ext (by dsimp only; omega)
theorem base_next (t t' : Fin cfg0.N) (e : t'.val = t.val + 1) (h : t'.val % 3 ≠ 0) : base t' = base t :=
  Fin.ext (by dsimp only; omega)

/-- The normalised rows of the row block that starts at a point. -/
def hnAt (b : Fin cfg0.N) : Vec F S1024x2048 .bf16 := k0_pay2 (iblk m c 0 b) (iblk m c 1 b)
/-- The gates' block of the row block that starts at a point. -/
def gatesAt (b : Fin cfg0.N) : Vec F S1024x128 .f32 := k0_pay3 (iblk m c 0 b) (iblk m c 1 b) (iblk m c 3 b)
/-- The projection's block of a point. -/
def proj (t : Fin cfg0.N) : Vec F S1024x1792 .f32 := k0_pay4 (hnAt m c (base t)) (X0_2 m c t)

/-- What the scratch holds before point `n`, if `n` is not the first of a row block. -/
def Inv (n : ℕ) (s : Vec F S1024x2048 .bf16) : Prop := ∀ t : Fin cfg0.N, t.val = n → t.val % 3 ≠ 0 → s = hnAt m c (base t)

/-- After any point. -/
theorem inv_succ (t : Fin cfg0.N) : Inv m c (t.val + 1) (hnAt m c (base t)) := fun t' e h => by rw [base_next t t' e h]

/-- The invariant before point `n`. -/
def PhiS (n : ℕ) : sProp 𝕄 :=
  iprop(∃ s, ⌜Inv m c n s⌝ ∗ owns (c : Thread nD τ) scHn fullShare s ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => proj m c t
    | ⟨5, _⟩ => gatesAt m c (base t)
  Φ t := PhiS m c t.val
  q _ := fullShare
  owed _ := 0

/-- The arrays are the launch's. -/
theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = X0_2 m c t := by dsimp only [dats]
theorem after3 (t : Fin cfg0.N) : (dats m 0 c).after 3 t = iblk m c 3 t := by dsimp only [dats]
theorem after4 (t : Fin cfg0.N) : (dats m 0 c).after 4 t = proj m c t := by dsimp only [dats]
theorem after5 (t : Fin cfg0.N) : (dats m 0 c).after 5 t = gatesAt m c (base t) := by dsimp only [dats]
theorem before0 (t : Fin cfg0.N) (d) : (dats m 0 c).before 0 t d = iblk m c 0 t :=
  before0_0_of m (dats m 0 c) (A_eq m c 0) (after0 m c) t d
theorem before1 (t : Fin cfg0.N) (d) : (dats m 0 c).before 1 t d = iblk m c 1 t :=
  before0_1_of m (dats m 0 c) (A_eq m c 1) (after1 m c) t d
theorem before2 (t : Fin cfg0.N) (d) : (dats m 0 c).before 2 t d = X0_2 m c t :=
  before0_2_of m (dats m 0 c) (A_eq m c 2) (after2 m c) t d
theorem before3 (t : Fin cfg0.N) (d) : (dats m 0 c).before 3 t d = iblk m c 3 t :=
  before0_3_of m (dats m 0 c) (A_eq m c 3) (after3 m c) t d

/-- The gates' buffer after a row block's first point. -/
theorem before5_one (t t' : Fin cfg0.N) (e : t'.val = t.val + 1) (h : t.val % 3 = 0) (d) :
    (dats m 0 c).before 5 t' d = gatesAt m c (base t') := by
  have ht : (⟨t'.val - 1, Nat.lt_of_le_of_lt (Nat.sub_le _ _) t'.isLt⟩ : Fin cfg0.N) = t := Fin.ext (by dsimp only; omega)
  rw [(dats m 0 c).before_of_pos 5 t' (by omega) rfl d, ht,
    if_neg (fun hf => absurd ((flush0_5 t).mp hf) (by omega))]
  unfold Dat.left
  rw [first_live t h, base_next t t' e (by omega), ← after5]
  rfl

/-- The gates' buffer at the points that do not store it. -/
theorem before5_next (t : Fin cfg0.N) (h : t.val % 3 ≠ 0) (d) : (dats m 0 c).before 5 t d = gatesAt m c (base t) := by
  have hm : t.val % 3 = 1 ∨ t.val % 3 = 2 := by omega
  have hl : t.val - 1 < cfg0.N := Nat.lt_of_le_of_lt (Nat.sub_le _ _) t.isLt
  rcases hm with h1 | h2
  · exact before5_one m c ⟨t.val - 1, hl⟩ t (by dsimp only; omega) (by dsimp only; omega) d
  · have hb := before5_one m c ⟨t.val - 2, Nat.lt_of_le_of_lt (Nat.sub_le _ _) t.isLt⟩ ⟨t.val - 1, hl⟩ (by dsimp only; omega) (by dsimp only; omega) d
    rw [(dats m 0 c).before_of_pos 5 t (by omega) rfl d,
      if_neg (fun hf => absurd ((flush0_5 ⟨t.val - 1, hl⟩).mp hf) (by dsimp only; omega))]
    unfold Dat.left
    rw [next_idle ⟨t.val - 1, hl⟩ (by dsimp only; omega)]
    refine hb.trans ?_
    rw [base_next ⟨t.val - 1, hl⟩ t (by dsimp only; omega) h]

/-- What the body is handed at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body hands back. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (t : Fin cfg0.N) : (dats m 0 c).leavesExact 0 t = owns (c : Thread nD τ) (st0_0 t) fullShare (iblk m c 0 t) := by
  rw [← after0 m c t]
theorem leaves1 (t : Fin cfg0.N) : (dats m 0 c).leavesExact 1 t = owns (c : Thread nD τ) (st0_1 t) fullShare (iblk m c 1 t) := by
  rw [← after1 m c t]
theorem leaves2 (t : Fin cfg0.N) : (dats m 0 c).leavesExact 2 t = owns (c : Thread nD τ) (st0_2 t) fullShare (X0_2 m c t) := by
  rw [← after2 m c t]
theorem leaves3 (t : Fin cfg0.N) : (dats m 0 c).leavesExact 3 t = owns (c : Thread nD τ) (st0_3 t) fullShare (iblk m c 3 t) := by
  rw [← after3 m c t]
theorem leaves4 (t : Fin cfg0.N) : (dats m 0 c).leavesExact 4 t = owns (c : Thread nD τ) (st0_4 t) fullShare (proj m c t) := by
  rw [← after4 m c t]
/-- At a point that does not store the gates their buffer is left as it was, written back or not. -/
theorem leaves5_next (t : Fin cfg0.N) (h : t.val % 3 ≠ 0) :
    owns (c : Thread nD τ) (st0_5 t) fullShare (gatesAt m c (base t)) ⊢ (dats m 0 c).leavesExact 5 t := by
  unfold Dat.leavesExact
  rw [next_idle t h]
  cases hf : (cfg0.win 5).flush t with
  | true =>
    rw [after5]
  | false =>
    iintro H
    iexists fun _ => Classical.choice inferInstance
    rw [before5_next m c t h]
    iexact H
/-- At a point that stores them it holds the stored block. -/
theorem leaves5_first (t : Fin cfg0.N) (h : t.val % 3 = 0) :
    (dats m 0 c).leavesExact 5 t = owns (c : Thread nD τ) (st0_5 t) fullShare (gatesAt m c (base t)) := by
  unfold Dat.leavesExact
  rw [first_live t h, after5]

theorem phi_succ (t : Fin cfg0.N) : (dats m 0 c).Φ t.succ = PhiS m c (t.val + 1) := rfl
theorem phi_cast (t : Fin cfg0.N) : (dats m 0 c).Φ t.castSucc = PhiS m c t.val := by
  dsimp only [dats]; rfl

/-- What the body hands back, spelled out: the projection's block, and the gates' block in either case. -/
theorem post_of (t : Fin cfg0.N) : iprop(PhiS m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (X0_2 m c t)
    ∗ owns (c : Thread nD τ) (st0_3 t) fullShare (iblk m c 3 t)
    ∗ owns (c : Thread nD τ) (st0_4 t) fullShare (proj m c t)
    ∗ owns (c : Thread nD τ) (st0_5 t) fullShare (gatesAt m c (base t))) ⊢ bodyPost m c t := by
  have h5 : owns (c : Thread nD τ) (st0_5 t) fullShare (gatesAt m c (base t)) ⊢ (dats m 0 c).leavesExact 5 t := by
    by_cases h : t.val % 3 = 0
    · rw [leaves5_first m c t h]
    · exact leaves5_next m c t h
  unfold bodyPost
  rw [leaves0, leaves1, leaves2, leaves3, leaves4, phi_succ]
  iintro ⟨HP, Ho, H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iapply h5
  iexact H5

/-- The body at a row block's first point. -/
theorem body_first (t : Fin cfg0.N) (h : t.val % 3 = 0) :
    bodyPre m c t ⊢ wp frame (wpE (defs₀ (F := F)) Variants.none c none) Set.univ (bodyAt0 t) (fun _ => bodyPost m c t) := by
  have e4 : proj m c t = k0_pay4 (k0_pay2 (iblk m c 0 t) (iblk m c 1 t)) (X0_2 m c t) := by unfold proj hnAt; rw [base_first t h]
  have e5 : gatesAt m c (base t) = k0_pay3 (iblk m c 0 t) (iblk m c 1 t) (iblk m c 3 t) := by unfold gatesAt; rw [base_first t h]
  have e6 : Inv m c (t.val + 1) (k0_pay2 (iblk m c 0 t) (iblk m c 1 t)) := by
    have := inv_succ m c t; rw [base_first t h] at this; exact this
  unfold bodyPre
  simp only [before0, before1, before2, before3]
  rw [phi_cast]
  unfold PhiS bodyAt0
  iintro ⟨⟨%s0, -, HS, Hg⟩, Ho, ⟨%d0, H0⟩, ⟨%d1, H1⟩, ⟨%d2, H2⟩, ⟨%d3, H3⟩, ⟨%d4, H4⟩, ⟨%d5, H5⟩⟩
  iapply (runFirst c (grid0.coords t) _ _ _ _ _ _ _ _ _ _ _ _ _ _ (iblk m c 0 t) (iblk m c 1 t) (X0_2 m c t) (iblk m c 3 t) ((first_iff t).mpr h) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexists _; iexact HS
  iintro ⟨H0, H1, H2, H3, H4, H5, HS⟩
  iapply (post_of m c t)
  rw [e4, e5]
  unfold PhiS
  isplitl [HS Hg]
  · iexists _
    isplitr; · ipureintro; exact e6
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at the other points. -/
theorem body_next (t : Fin cfg0.N) (h : t.val % 3 ≠ 0) :
    bodyPre m c t ⊢ wp frame (wpE (defs₀ (F := F)) Variants.none c none) Set.univ (bodyAt0 t) (fun _ => bodyPost m c t) := by
  unfold bodyPre
  simp only [before0, before1, before2, before3, before5_next m c t h]
  rw [phi_cast]
  unfold PhiS bodyAt0
  iintro ⟨⟨%s0, %hs, HS, Hg⟩, Ho, ⟨%d0, H0⟩, ⟨%d1, H1⟩, ⟨%d2, H2⟩, ⟨%d3, H3⟩, ⟨%d4, H4⟩, ⟨%d5, H5⟩⟩
  obtain rfl := hs t rfl h
  iapply (runNext c (grid0.coords t) _ _ _ _ _ _ _ _ _ _ _ _ _ _ (iblk m c 0 t) (iblk m c 1 t) (X0_2 m c t) (iblk m c 3 t)
    (fun hc => h ((first_iff t).mp hc)) (gatesAt m c (base t)) (hnAt m c (base t)) Set.univ _)
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, H4, H5, HS⟩
  iapply (post_of m c t)
  unfold PhiS
  isplitl [HS Hg]
  · iexists _
    isplitr; · ipureintro; exact inv_succ m c t
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem body_any (t : Fin cfg0.N) :
    bodyPre m c t ⊢ wp frame (wpE (defs₀ (F := F)) Variants.none c none) Set.univ (bodyAt0 t) (fun _ => bodyPost m c t) := by
  by_cases h : t.val % 3 = 0
  · exact body_first m c t h
  · exact body_next m c t h

/-- The body table's row is the body. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation : BodyObligation (dats (F := F) m 0 c) (defs₀ (F := F)) Variants.none () Set.univ := fun t => by
  rw [bigSep_W0, bigSep_W0, row_eq]
  exact triple_restated (body_any m c t) rfl .rfl fun _ => .rfl

/-- The region is entered with the invariant. -/
theorem enter : Pipeline.ΦA spec0 c ⊢ (dats m 0 c).Φ 0 := by
  rw [show (dats m 0 c).Φ 0 = PhiS m c 0 from rfl, entry_eq]
  unfold PhiS
  iintro ⟨⟨%s0, HS0⟩, Hg⟩
  iexists s0
  isplitr; · ipureintro; exact fun t e h => absurd (by rw [e]) h
  isplitl [HS0]; · iexact HS0
  iexact Hg

/-- And left with the scratch at some contents. -/
theorem leave : (dats m 0 c).Φ (Fin.last cfg0.N) ⊢ Pipeline.ΦA spec0 c := by
  rw [show (dats m 0 c).Φ (Fin.last cfg0.N) = PhiS m c (Fin.last cfg0.N).val from rfl, entry_eq]
  unfold PhiS
  iintro ⟨%s0, -, HS0, Hg⟩
  isplitl [HS0]; · iexists _; iexact HS0
  iexact Hg

variable (ρ : Dev nD → PrngReg)

set_option backward.isDefEq.respectTransparency.types false in
/-- Every run ends, with the arrays at what the pipeline computes from the proof data and the counters at zero. -/
theorem run_zero : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := fun c w => A_eq m c w)
    (hin := fun c => enter m c) (hout := fun c => leave m c)

/-- The same without the counters. -/
theorem run_post : θ_run defs (onTc (τ := τ) (main (F := F))) (s₀ m ρ) (Pipeline.FramePost cfgs (dats m) 0 (V m)) :=
  (θ_run defs _ _).mono (fun _ h => h.1) (run_zero m ρ)

end Cert.InRun

end
end
-- ==== Proof.In.Result.lean ====
/- The input projection's two result arrays. -/
module

public import proofs.«01_k».proof.Proof.In.Blocks
public import proofs.«01_k».proof.Proof.In.Region

@[expose] public section

set_option maxRecDepth 16384

noncomputable section

namespace Cert.InRun

open Cert.InIdeal Cert.InIdeal.Gen Cert.InSpec
open Idealize.ShloMosaic Idealize.ShloMosaic.TcCoe Idealize.SL.Sem

variable (m : (ℓ : Loc nD τ sig) → Buf (Elt Ideal) ℓ) (c : Dev nD)

/-- One row's normalised entries. -/
def nrm (R : Fin 16384) : Fin 2048 → EReal := FfnSpec.rms (xs m c R) (gs m c)

/-- The projection's array. -/
def G4 : Vec Ideal S16384x5376 .f32 := fun i => dot (nrm m c (i 0)) (ws m c) ⟨(i 1).val, lt_trans (i 1).isLt (by decide)⟩

/-- The gates' array. -/
def G5 : Vec Ideal S16384x128 .f32 := fun i => gate (nrm m c (i 0)) (ws m c) (i 1)

/-- A point's rows are its row block's. -/
theorem row_base (t : Fin cfg0.N) (r : Fin 1024) : row (base t) r = row t r := Fin.ext (by
  show 1024 * (3 * (t.val / 3) / 3) + r.val = 1024 * (t.val / 3) + r.val
  omega)

/-- The kept rows are the normalised rows. -/
theorem hn_apply (t : Fin cfg0.N) (r : Fin 1024) (k : Fin 2048) : hnAt m c (base t) (ix2 r k) = nrm m c (row t r) k := by
  unfold hnAt nrm
  rw [pay2_apply]
  simp only [blk0, blk1, row_base]

/-- The column of a point. -/
def col (t : Fin cfg0.N) (l : Fin 1792) : Fin 5376 := ⟨1792 * (t.val % 3) + l.val, by omega⟩

/-- What a point stores of the projection. -/
theorem proj_row (t : Fin cfg0.N) (r : Fin 1024) (l : Fin 1792) :
    proj m c t (ix2 r l) = dot (nrm m c (row t r)) (ws m c) ⟨(col t l).val, lt_trans (col t l).isLt (by decide)⟩ := by
  unfold proj dot
  rw [pay4_apply]
  exact Finset.sum_congr rfl fun k _ => by rw [hn_apply, blk2]; rfl

/-- What a row block stores of the gates. -/
theorem gates_row (t : Fin cfg0.N) (r : Fin 1024) (q : Fin 128) :
    gatesAt m c (base t) (ix2 r q) = gate (nrm m c (row t r)) (ws m c) q := by
  unfold gatesAt nrm
  rw [pay3_apply, ← sum_wgate]
  simp only [blk0, blk1, blk3, row_base]

/-- The projection's array after the run. -/
theorem final4 : (dats m 0 c).arrAt 4 cfg0.N = G4 m c := by
  refine (dats m 0 c).arrAt_eq_of_covers 4 _ (by decide +kernel) fun t hf y => ?_
  blk_simp
  rw [after4]
  obtain ⟨r, k, rfl⟩ : ∃ (r : Fin 1024) (k : Fin 1792), y = ix2 r k := ⟨y 0, y 1, eq_ix2 y⟩
  have e : win0_4.index t = ![t.val / 3, t.val % 3] := (idx t).2.2.2.2.1
  have e0 : ((win0_4.blk t).view.emb (ix2 r k)) 0 = row t r := Fin.ext (by
    show win0_4.index t 0 * 1024 + 1 * r.val = 1024 * (t.val / 3) + r.val
    rw [e]
    show t.val / 3 * 1024 + 1 * r.val = _
    omega)
  have e1 : ((win0_4.blk t).view.emb (ix2 r k)) 1 = col t k := Fin.ext (by
    show win0_4.index t 1 * 1792 + 1 * k.val = 1792 * (t.val % 3) + k.val
    rw [e]
    show t.val % 3 * 1792 + 1 * k.val = _
    omega)
  refine (proj_row m c t r k).trans ?_
  show _ = dot (nrm m c (((win0_4.blk t).view.emb (ix2 r k)) 0)) _ ⟨(((win0_4.blk t).view.emb (ix2 r k)) 1).val, _⟩
  rw [e0]
  exact congrArg (dot _ _) (Fin.ext (congrArg Fin.val e1).symm)

/-- The gates' array after the run. -/
theorem final5 : (dats m 0 c).arrAt 5 cfg0.N = G5 m c := by
  refine (dats m 0 c).arrAt_eq_of_covers 5 _ (by decide +kernel) fun t hf y => ?_
  blk_simp
  rw [after5]
  obtain ⟨r, k, rfl⟩ : ∃ (r : Fin 1024) (k : Fin 128), y = ix2 r k := ⟨y 0, y 1, eq_ix2 y⟩
  have e : win0_5.index t = ![t.val / 3, 0] := (idx t).2.2.2.2.2
  have e0 : ((win0_5.blk t).view.emb (ix2 r k)) 0 = row t r := Fin.ext (by
    show win0_5.index t 0 * 1024 + 1 * r.val = 1024 * (t.val / 3) + r.val
    rw [e]
    show t.val / 3 * 1024 + 1 * r.val = _
    omega)
  have e1 : ((win0_5.blk t).view.emb (ix2 r k)) 1 = k := Fin.ext (by
    show win0_5.index t 1 * 128 + 1 * k.val = k.val
    rw [e]
    show 0 * 128 + 1 * k.val = _
    omega)
  refine (gates_row m c t r k).trans ?_
  show _ = gate (nrm m c (((win0_5.blk t).view.emb (ix2 r k)) 0)) _ (((win0_5.blk t).view.emb (ix2 r k)) 1)
  rw [e0, e1]

/-- The run: both arrays at the projection's rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v11_0) = G4 m c
      ∧ r.2.mem ((c : Thread nD τ).loc main_v11_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_post m ρ)

end Cert.InRun
end
end
-- ==== Proof.In.Same.lean ====
module
public import proofs.«01_k».proof.Proof.Gen.In
public import proofs.«01_k».proof.Proof.Gen.InIdeal
public import Idealize.ShloMosaic.Lib.Claim

@[expose] public section

namespace Cert.InRun

set_option maxRecDepth 16384
open Idealize.ShloMosaic
variable {F : FTy → Type} [FloatOps F]
/-- The input projection's body is the same text at bits and over the ideal numbers. -/
theorem body_eq : @In.cc0_norm_proj_even F _ _ = @InIdeal.cc0_norm_proj_even F _ _ := rfl
/-- So are the tables of bodies. -/
theorem defs₀_eq : In.defs₀ (F := F) = InIdeal.defs₀ (F := F) := by
  unfold In.defs₀ InIdeal.defs₀
  apply congrArg (Defs.onTc (nD := In.nD) (τ := In.τ))
  funext l
  match l with
  | ⟨0, _⟩ =>
    funext ⟨t, s⟩
    show In.cc0_norm_proj_even (F := F) _ _ _ _ _ _ _ _ _ _ _ _ _ _ _ = _
    rw [body_eq]
    rfl
/-- So are the tables with the pipeline. -/
theorem defs_eq : In.defs (F := F) = InIdeal.defs (F := F) := by
  unfold In.defs InIdeal.defs
  rw [defs₀_eq]
  rfl

/-- So are the programs. -/
theorem main_eq : In.main (F := F) = InIdeal.main (F := F) := by
  unfold In.main InIdeal.main
  rfl

/-- What the ideal text's run does, the other text's run does. -/
theorem run_same (σ : MemSt In.nD In.τ In.sig (Elt F)) (post : (PUnit × MemSt In.nD In.τ In.sig (Elt F)) → Prop)
    (h : θ_run InIdeal.defs (onTc (τ := InIdeal.τ) (InIdeal.main (F := F))) σ post) :
    θ_run In.defs (onTc (τ := In.τ) (In.main (F := F))) σ post := by
  rw [defs_eq, main_eq]
  exact h

end Cert.InRun

end
-- ==== Proof.In.RefRows.lean ====
/- The input projection's reference, read at one entry. -/
module

public import proofs.«01_k».proof.Proof.In.Spec
public import proofs.«01_k».proof.Proof.Gen.InRefIdeal.Read
public import Idealize.ShloMosaic.Lib.Pointwise
public import Idealize.ShloMosaic.Lib.Pipeline.ValueKit

@[expose] public section

set_option maxRecDepth 16384

noncomputable section

namespace Cert.InRefIdeal.Rows

open Cert.InRefIdeal Cert.InRefIdeal.Read Idealize.ShloMosaic Cert.InSpec

variable (x0 : Vec Ideal S4x4096x2048 .f32) (x1 : Vec Ideal S1x2048 .f32) (x2 : Vec Ideal S1x2048x5392 .f32)

/-- The normalised rows. -/
theorem norm_apply (b : Fin 4) (s : Fin 4096) (k : Fin 2048) :
    val_main_v13 x0 x1 (ix3 b s k) = FfnSpec.rms (fun j => x0 (ix3 b s j)) (fun j => x1 (ix2 0 j)) k := by
  unfold FfnSpec.rms
  pointwise [val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]

/-- The whole product. -/
theorem dot_apply (R : Fin 16384) (f : Fin 5392) : val_main_v16 x0 x1 x2 (ix2 R f)
    = dot (FfnSpec.rms (fun j => x0 (ix3 ⟨R.val / 4096, by omega⟩ ⟨R.val % 4096, by omega⟩ j)) (fun j => x1 (ix2 0 j)))
        (fun k f => x2 (ix3 0 k f)) f := by
  unfold dot
  pointwise [val_main_v16, val_main_v15, val_main_v14, norm_apply]

/-- The projection's result at one entry. -/
theorem proj_apply (R : Fin 16384) (f : Fin 5376) : val_main_v21 x0 x1 x2 (ix2 R f)
    = dot (FfnSpec.rms (fun j => x0 (ix3 ⟨R.val / 4096, by omega⟩ ⟨R.val % 4096, by omega⟩ j)) (fun j => x1 (ix2 0 j)))
        (fun k f => x2 (ix3 0 k f)) ⟨f.val, by omega⟩ := by
  pointwise [val_main_v21, dot_apply]

/-- The gates' result at one entry. -/
theorem gate_apply (R : Fin 16384) (q : Fin 128) : val_main_v20 x0 x1 x2 (ix2 R q)
    = gate (FfnSpec.rms (fun j => x0 (ix3 ⟨R.val / 4096, by omega⟩ ⟨R.val % 4096, by omega⟩ j)) (fun j => x1 (ix2 0 j)))
        (fun k f => x2 (ix3 0 k f)) q := by
  have hq := q.isLt
  unfold gate
  pointwise [val_main_v20, val_main_v17, val_main_v18, val_main_v19, val_main_cst_2, dot_apply]
  by_cases h8 : q.val < 8
  · rw [dif_pos h8, dif_pos (show q.val < 24 by omega)]
    exact congrArg (dot _ _) (Fin.ext (gcol_lo q _ (by omega)).symm)
  rw [dif_neg h8]
  by_cases h16 : q.val - 8 < 8
  · rw [dif_pos h16, dif_pos (show q.val < 24 by omega)]
    exact congrArg (dot _ _) (Fin.ext ((show 5384 + (q.val - 8) = 5376 + q.val by omega).trans (gcol_lo q _ (by omega)).symm))
  rw [dif_neg h16]
  by_cases h24 : q.val - 8 - 8 < 8
  · rw [dif_pos h24, dif_pos (show q.val < 24 by omega)]
    exact congrArg (dot _ _) (Fin.ext ((show 5384 + (q.val - 8 - 8) = 5368 + q.val by omega).trans (gcol_hi q _ (by omega)).symm))
  rw [dif_neg h24, dif_neg (show ¬q.val < 24 by omega)]

end Cert.InRefIdeal.Rows

end
end
-- ==== Proof.In.Claim.lean ====
/- The claims about the even layer's input projection. -/
module

public import proofs.«01_k».proof.Defs
public import proofs.«01_k».proof.Proof.Gen.In
public import proofs.«01_k».proof.Proof.Gen.InRefIdeal.Run
public import proofs.«01_k».proof.Proof.In.Result
public import proofs.«01_k».proof.Proof.In.Same
public import proofs.«01_k».proof.Proof.In.RefRows
public import Idealize.ShloMosaic.Lib.Claim
public import Idealize.ShloMosaic.Lib.Quiescent
public import Idealize.ShloMosaic.Adequacy
public import Idealize.ShloMosaic.Init

@[expose] public section

set_option maxRecDepth 16384

noncomputable section

namespace Cert.InClaim

open Idealize.ShloMosaic Idealize.ShloMosaic.TcCoe Idealize.SL.Sem
open Cert.InIdeal.Gen Cert.InRun

/-- The projection's run at any number type: the arguments unchanged, the semaphores at zero. -/
theorem kept {F : FTy → Type} [FloatOps F] (m : (ℓ : Loc Cert.InIdeal.nD Cert.InIdeal.τ Cert.InIdeal.sig) → Buf (Elt F) ℓ)
    (ρ : Dev Cert.InIdeal.nD → PrngReg) :
    θ_run Cert.InIdeal.defs (onTc (τ := Cert.InIdeal.τ) (Cert.InIdeal.main (F := F))) ⟨m, fun _ => 0, ρ⟩ fun r =>
      (∀ c : Dev Cert.InIdeal.nD,
        r.2.mem ((c : Thread Cert.InIdeal.nD Cert.InIdeal.τ).loc Cert.InIdeal.main_arg0) = m ((c : Thread Cert.InIdeal.nD Cert.InIdeal.τ).loc Cert.InIdeal.main_arg0) ∧
        r.2.mem ((c : Thread Cert.InIdeal.nD Cert.InIdeal.τ).loc Cert.InIdeal.main_arg1) = m ((c : Thread Cert.InIdeal.nD Cert.InIdeal.τ).loc Cert.InIdeal.main_arg1) ∧
        r.2.mem ((c : Thread Cert.InIdeal.nD Cert.InIdeal.τ).loc Cert.InIdeal.main_arg2) = m ((c : Thread Cert.InIdeal.nD Cert.InIdeal.τ).loc Cert.InIdeal.main_arg2))
      ∧ r.2.sem = fun _ => 0 :=
  θ_run_and (frame_of m ρ (dats m) (fun c w => A_eq m c w) (run_post m ρ)) ((θ_run Cert.InIdeal.defs _ _).mono (fun _ h => h.2) (run_zero m ρ))

/-- The ideal projection's frame. -/
theorem frame_ideal : Cert.quiescent_InIdeal := fun m ρ _ => kept m ρ

/-- The projection's frame: the same text run at bits. -/
theorem frame : Cert.quiescent_In := fun m ρ _ => run_same _ _ (kept (F := Bits) m ρ)

/-- The reference's frame. -/
theorem frame_ref : Cert.quiescent_InRefIdeal := fun m ρ _ =>
  (θ_run Cert.InRefIdeal.defs _ _).mono (fun r h => ⟨fun c => (h c).2.2, sem_eq_zero_of_no_sems rfl r.2⟩)
    (Cert.InRefIdeal.Value.run m ρ)

/-- The projections are one function of equal arguments. -/
theorem proj_eq (m : (ℓ : Loc Cert.InIdeal.nD Cert.InIdeal.τ Cert.InIdeal.sig) → Buf (Elt Ideal) ℓ) (c : Dev Cert.InIdeal.nD) :
    Cert.InRefIdeal.Read.val_main_v21 (F := Ideal)
      (m ((c : Thread Cert.InIdeal.nD Cert.InIdeal.τ).loc Cert.InIdeal.main_arg0))
      (m ((c : Thread Cert.InIdeal.nD Cert.InIdeal.τ).loc Cert.InIdeal.main_arg1))
      (m ((c : Thread Cert.InIdeal.nD Cert.InIdeal.τ).loc Cert.InIdeal.main_arg2)) = G4 m c := by
  funext i
  obtain ⟨r, k, rfl⟩ : ∃ (r : Fin 16384) (k : Fin 5376), i = ix2 r k := ⟨i 0, i 1, eq_ix2 i⟩
  refine (Cert.InRefIdeal.Rows.proj_apply _ _ _ r k).trans ?_
  unfold G4 nrm xs gs ws
  rfl

/-- So are the gates. -/
theorem gates_eq (m : (ℓ : Loc Cert.InIdeal.nD Cert.InIdeal.τ Cert.InIdeal.sig) → Buf (Elt Ideal) ℓ) (c : Dev Cert.InIdeal.nD) :
    Cert.InRefIdeal.Read.val_main_v20 (F := Ideal)
      (m ((c : Thread Cert.InIdeal.nD Cert.InIdeal.τ).loc Cert.InIdeal.main_arg0))
      (m ((c : Thread Cert.InIdeal.nD Cert.InIdeal.τ).loc Cert.InIdeal.main_arg1))
      (m ((c : Thread Cert.InIdeal.nD Cert.InIdeal.τ).loc Cert.InIdeal.main_arg2)) = G5 m c := by
  funext i
  obtain ⟨r, k, rfl⟩ : ∃ (r : Fin 16384) (k : Fin 128), i = ix2 r k := ⟨i 0, i 1, eq_ix2 i⟩
  refine (Cert.InRefIdeal.Rows.gate_apply _ _ _ r k).trans ?_
  unfold G5 nrm xs gs ws
  rfl

/-- The reference's run, its results by name. -/
theorem run_ref (m : (ℓ : Loc Cert.InRefIdeal.nD Cert.InRefIdeal.τ Cert.InRefIdeal.sig) → Buf (Elt Ideal) ℓ)
    (ρ : Dev Cert.InRefIdeal.nD → PrngReg) :
    θ_run Cert.InRefIdeal.defs (onTc (τ := Cert.InRefIdeal.τ) (Cert.InRefIdeal.main (F := Ideal))) ⟨m, fun _ => 0, ρ⟩ fun r => ∀ c : Dev Cert.InRefIdeal.nD,
      r.2.mem ((c : Thread Cert.InRefIdeal.nD Cert.InRefIdeal.τ).loc Cert.InRefIdeal.main_v21) = Cert.InRefIdeal.Read.val_main_v21 (F := Ideal)
        (m ((c : Thread Cert.InRefIdeal.nD Cert.InRefIdeal.τ).loc Cert.InRefIdeal.main_arg0))
        (m ((c : Thread Cert.InRefIdeal.nD Cert.InRefIdeal.τ).loc Cert.InRefIdeal.main_arg1))
        (m ((c : Thread Cert.InRefIdeal.nD Cert.InRefIdeal.τ).loc Cert.InRefIdeal.main_arg2))
      ∧ r.2.mem ((c : Thread Cert.InRefIdeal.nD Cert.InRefIdeal.τ).loc Cert.InRefIdeal.main_v20) = Cert.InRefIdeal.Read.val_main_v20 (F := Ideal)
        (m ((c : Thread Cert.InRefIdeal.nD Cert.InRefIdeal.τ).loc Cert.InRefIdeal.main_arg0))
        (m ((c : Thread Cert.InRefIdeal.nD Cert.InRefIdeal.τ).loc Cert.InRefIdeal.main_arg1))
        (m ((c : Thread Cert.InRefIdeal.nD Cert.InRefIdeal.τ).loc Cert.InRefIdeal.main_arg2))
      ∧ r.2.mem ((c : Thread Cert.InRefIdeal.nD Cert.InRefIdeal.τ).loc Cert.InRefIdeal.main_arg0) = m ((c : Thread Cert.InRefIdeal.nD Cert.InRefIdeal.τ).loc Cert.InRefIdeal.main_arg0)
      ∧ r.2.mem ((c : Thread Cert.InRefIdeal.nD Cert.InRefIdeal.τ).loc Cert.InRefIdeal.main_arg1) = m ((c : Thread Cert.InRefIdeal.nD Cert.InRefIdeal.τ).loc Cert.InRefIdeal.main_arg1)
      ∧ r.2.mem ((c : Thread Cert.InRefIdeal.nD Cert.InRefIdeal.τ).loc Cert.InRefIdeal.main_arg2) = m ((c : Thread Cert.InRefIdeal.nD Cert.InRefIdeal.τ).loc Cert.InRefIdeal.main_arg2) :=
  (θ_run Cert.InRefIdeal.defs _ _).mono (fun r h c => ⟨(h c).1.trans (Cert.InRefIdeal.Read.val_main_v21_eq _ _ _),
    (h c).2.1.trans (Cert.InRefIdeal.Read.val_main_v20_eq _ _ _), (h c).2.2⟩) (Cert.InRefIdeal.Value.run m ρ)

/-- The ideal projection computes the reference's functions. -/
theorem algebraic : Cert.algebraic_InIdeal_InRefIdeal := by
  pair_intro
  · run_from Cert.InRun.run m g
  · refine (θ_run Cert.InRefIdeal.defs _ _).mono (fun r h c => ?_) (run_ref m' g')
    obtain ⟨h21, h20, hk⟩ := h c
    rw [(hagree c).1, (hagree c).2.1, (hagree c).2.2] at h21 h20
    exact ⟨h21.trans (proj_eq m c), h20.trans (gates_eq m c), hk⟩

end Cert.InClaim

end
-- ==== Proof.Out.Spec.lean ====
/- The even layer's output projection as plain sums: the residual stream plus the two head groups' outputs, side by
   side, through one matrix. -/
module

public import Idealize.ShloMosaic.PureOps.Ideal

@[expose] public section

set_option maxRecDepth 16384

noncomputable section

namespace Cert.OutSpec

open Idealize.ShloMosaic

/-- The two head groups' outputs of one row, side by side. -/
def cat (a b : Fin 1024 → EReal) (k : Fin 2048) : EReal :=
  if h : k.val < 1024 then a ⟨k.val, h⟩ else b ⟨k.val - 1024, by omega⟩

/-- One row's result: the residual plus the row of both groups through the matrix. -/
def out (h : Fin 2048 → EReal) (a b : Fin 1024 → EReal) (w : Fin 2048 → Fin 2048 → EReal) (c : Fin 2048) : EReal :=
  h c + ∑ k : Fin 2048, cat a b k * w k c

/-- The same with each group's product by itself. -/
theorem out_eq (h : Fin 2048 → EReal) (a b : Fin 1024 → EReal) (w : Fin 2048 → Fin 2048 → EReal) (c : Fin 2048) :
    out h a b w c = h c + (∑ k : Fin 1024, a k * w ⟨k.val, by omega⟩ c)
      + ∑ k : Fin 1024, b k * w ⟨1024 + k.val, by omega⟩ c := by
  unfold out
  rw [show ∑ k : Fin 2048, cat a b k * w k c = _ from
    Fin.sum_univ_add (a := 1024) (b := 1024) (fun k => cat a b k * w k c), add_assoc]
  refine congrArg (h c + ·) (congrArg₂ (· + ·) ?_ ?_)
  · refine Finset.sum_congr rfl fun k _ => ?_
    rw [cat, dif_pos (show (Fin.castAdd 1024 k).val < 1024 from k.isLt)]
    rfl
  · refine Finset.sum_congr rfl fun k _ => ?_
    rw [cat, dif_neg (show ¬(Fin.natAdd 1024 k).val < 1024 from by simp)]
    exact congrArg (b · * _) (Fin.ext (by simp))

end Cert.OutSpec

end
end
-- ==== Proof.Out.Result.lean ====
/- The output projection's blocks, stored values and result array. -/
module

public import proofs.«01_k».proof.Proof.Gen.OutIdeal.Value
public import proofs.«01_k».proof.Proof.Out.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutIdeal.Result

open Cert.OutIdeal Cert.OutIdeal.Gen Idealize.ShloMosaic Idealize.ShloMosaic.TcCoe Idealize.SL.Sem Cert.OutSpec

variable (m : (ℓ : Loc nD τ sig) → Buf (Elt Ideal) ℓ) (c : Dev nD)

/-- The stored block at one entry: the residual plus the two products. -/
theorem pay_apply (h : Vec Ideal S512x2048 .f32) (a : Vec Ideal S512x1024 .bf16) (wa : Vec Ideal S1x1024x2048 .bf16)
    (b : Vec Ideal S512x1024 .bf16) (wb : Vec Ideal S1x1024x2048 .bf16) (r : Fin 512) (k : Fin 2048) :
    k0_pay1 h a wa b wb (ix2 r k) = h (ix2 r k) + (∑ j : Fin 1024, a (ix2 r j) * wa (ix3 0 j k))
      + ∑ j : Fin 1024, b (ix2 r j) * wb (ix3 0 j k) := by
  pointwise [k0_pay1]

/-- Every point is one of 32 row blocks. -/
theorem lt (t : Fin cfg0.N) : t.val < 32 := t.isLt

/-- The blocks' indices at a point, window by window. -/
theorem idx : ∀ t : Fin grid0.N, win0_0.index t = ![t.val, 0] ∧ win0_1.index t = ![t.val, 0]
    ∧ win0_2.index t = ![0, 0, 0] ∧ win0_3.index t = ![0, 1, 0] ∧ win0_4.index t = ![t.val, 0]
    ∧ win0_5.index t = ![t.val, 0] := by decide +kernel

/-- The residual rows. -/
def hs (R : Fin 16384) (k : Fin 2048) : EReal := m ((c : Thread nD τ).loc main_arg0)
  (ix3 ⟨R.val / 4096, by omega⟩ ⟨R.val % 4096, by omega⟩ k)

/-- The first group's rows. -/
def ga (R : Fin 16384) (k : Fin 1024) : EReal := m ((c : Thread nD τ).loc main_arg1)
  (ix3 ⟨R.val / 4096, by omega⟩ ⟨R.val % 4096, by omega⟩ k)

/-- The second group's rows. -/
def gb (R : Fin 16384) (k : Fin 1024) : EReal := m ((c : Thread nD τ).loc main_arg2)
  (ix3 ⟨R.val / 4096, by omega⟩ ⟨R.val % 4096, by omega⟩ k)

/-- The matrix. -/
def wo (k l : Fin 2048) : EReal := m ((c : Thread nD τ).loc main_arg3) (ix3 0 k l)

/-- Row `r` of point `t`'s block. -/
def row (t : Fin cfg0.N) (r : Fin 512) : Fin 16384 := ⟨512 * t.val + r.val, by have := lt t; omega⟩

/-- The first group's rows of a point. -/
theorem blk0 (t : Fin cfg0.N) (r : Fin 512) (k : Fin 1024) : iblk m c 0 t (ix2 r k) = ga m c (row t r) k := by
  have := lt t
  unfold ga row
  blk_ext! [iblk, V, idx t]

/-- The second group's rows of a point. -/
theorem blk1 (t : Fin cfg0.N) (r : Fin 512) (k : Fin 1024) : iblk m c 1 t (ix2 r k) = gb m c (row t r) k := by
  have := lt t
  unfold gb row
  blk_ext! [iblk, V, idx t]

/-- The matrix's upper half. -/
theorem blk2 (t : Fin cfg0.N) (k : Fin 1024) (l : Fin 2048) : iblk m c 2 t (ix3 0 k l) = wo m c ⟨k.val, by omega⟩ l := by
  unfold wo
  blk_ext! [iblk, V, idx t]

/-- The matrix's lower half. -/
theorem blk3 (t : Fin cfg0.N) (k : Fin 1024) (l : Fin 2048) : iblk m c 3 t (ix3 0 k l) = wo m c ⟨1024 + k.val, by omega⟩ l := by
  unfold wo
  blk_ext! [iblk, V, idx t]

/-- The residual rows of a point. -/
theorem blk4 (t : Fin cfg0.N) (r : Fin 512) (k : Fin 2048) : iblk m c 4 t (ix2 r k) = hs m c (row t r) k := by
  have := lt t
  unfold hs row
  blk_ext! [iblk, V, idx t]

/-- The result array. -/
def G5 : Vec Ideal S16384x2048 .f32 := fun i => out (hs m c (i 0)) (ga m c (i 0)) (gb m c (i 0)) (wo m c) (i 1)

/-- What a point stores is the layer's rows. -/
theorem stored (t : Fin cfg0.N) (r : Fin 512) (k : Fin 2048) :
    out0_5 (iblk m c 0 t) (iblk m c 1 t) (iblk m c 2 t) (iblk m c 3 t) (iblk m c 4 t) (ix2 r k)
      = out (hs m c (row t r)) (ga m c (row t r)) (gb m c (row t r)) (wo m c) k := by
  have e : out0_5 (iblk m c 0 t) (iblk m c 1 t) (iblk m c 2 t) (iblk m c 3 t) (iblk m c 4 t)
      = k0_pay1 (iblk m c 4 t) (iblk m c 0 t) (iblk m c 2 t) (iblk m c 1 t) (iblk m c 3 t) := by frame_out
  rw [e, pay_apply, out_eq, blk4]
  simp only [blk0, blk1, blk2, blk3]

/-- The output array after the run. -/
theorem final5 : (dats m 0 c).arrAt 5 cfg0.N = G5 m c := by
  refine (dats m 0 c).arrAt_eq_of_covers 5 _ (by decide +kernel) fun t hf y => ?_
  have hlt := lt t
  obtain ⟨r, k, rfl⟩ : ∃ (r : Fin 512) (k : Fin 2048), y = ix2 r k := ⟨y 0, y 1, eq_ix2 y⟩
  have e : win0_5.index t = ![t.val, 0] := (idx t).2.2.2.2.2
  have e0 : ((win0_5.blk t).view.emb (ix2 r k)) 0 = row t r := Fin.ext (by
    show win0_5.index t 0 * 512 + 1 * r.val = 512 * t.val + r.val
    rw [e]
    show t.val * 512 + 1 * r.val = _
    omega)
  have e1 : ((win0_5.blk t).view.emb (ix2 r k)) 1 = k := Fin.ext (by
    show win0_5.index t 1 * 2048 + 1 * k.val = k.val
    rw [e]
    show 0 * 2048 + 1 * k.val = _
    omega)
  blk_simp
  rw [after0_5]
  refine (stored m c t r k).trans ?_
  show _ = out _ _ _ _ (((win0_5.blk t).view.emb (ix2 r k)) 1)
  rw [e0, e1]

/-- The run: the output array at the projection's rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1).trans (final5 m c), (h c).2⟩) (Cert.OutIdeal.Value.run_blocks m ρ)

end Cert.OutIdeal.Result

end
end
-- ==== Proof.Out.RefRows.lean ====
/- The output projection's reference, read at one entry. -/
module

public import proofs.«01_k».proof.Proof.Out.Spec
public import proofs.«01_k».proof.Proof.Gen.OutRefIdeal.Read
public import Idealize.ShloMosaic.Lib.Pointwise
public import Idealize.ShloMosaic.Lib.Pipeline.ValueKit

@[expose] public section

set_option maxRecDepth 16384

noncomputable section

namespace Cert.OutRefIdeal.Rows

open Cert.OutRefIdeal Cert.OutRefIdeal.Read Idealize.ShloMosaic Cert.OutSpec

/-- The two groups side by side. -/
theorem cat_apply (x1 x2 : Vec Ideal S4x4096x1024 .f32) (b : Fin 4) (s : Fin 4096) (k : Fin 2048) :
    val_main_v0 x1 x2 (ix3 b s k) = cat (fun j => x1 (ix3 b s j)) (fun j => x2 (ix3 b s j)) k := by
  unfold cat
  pointwise [val_main_v0]

/-- The reference's result at one entry. -/
theorem result_apply (x0 : Vec Ideal S4x4096x2048 .f32) (x1 x2 : Vec Ideal S4x4096x1024 .f32)
    (x3 : Vec Ideal S1x2048x2048 .f32) (r : Fin 16384) (k : Fin 2048) :
    val_main_v4 x0 x1 x2 x3 (ix2 r k)
      = out (fun j => x0 (ix3 ⟨r.val / 4096, by omega⟩ ⟨r.val % 4096, by omega⟩ j))
          (fun j => x1 (ix3 ⟨r.val / 4096, by omega⟩ ⟨r.val % 4096, by omega⟩ j))
          (fun j => x2 (ix3 ⟨r.val / 4096, by omega⟩ ⟨r.val % 4096, by omega⟩ j)) (fun k l => x3 (ix3 0 k l)) k := by
  unfold out
  pointwise [val_main_v4, val_main_v3, val_main_v2, val_main_v1, cat_apply]

end Cert.OutRefIdeal.Rows

end
end
-- ==== Proof.Out.Claim.lean ====
/- The claims about the even layer's output projection. -/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Out.Result
public import proofs.«01_k».proof.Proof.Out.RefRows
public import Idealize.ShloMosaic.Lib.Claim
public import Idealize.ShloMosaic.Lib.Quiescent
public import Idealize.ShloMosaic.Adequacy
public import Idealize.ShloMosaic.Init

@[expose] public section

set_option maxRecDepth 16384

noncomputable section

namespace Cert.OutClaim

open Idealize.ShloMosaic Idealize.ShloMosaic.TcCoe Idealize.SL.Sem
open Cert.OutIdeal.Result

/-- The reference's result is the array the ideal projection leaves. -/
theorem results_eq (m : (ℓ : Loc Cert.OutIdeal.nD Cert.OutIdeal.τ Cert.OutIdeal.sig) → Buf (Elt Ideal) ℓ)
    (c : Dev Cert.OutIdeal.nD) :
    Cert.OutRefIdeal.Read.val_main_v4 (F := Ideal)
      (m ((c : Thread Cert.OutIdeal.nD Cert.OutIdeal.τ).loc Cert.OutIdeal.main_arg0))
      (m ((c : Thread Cert.OutIdeal.nD Cert.OutIdeal.τ).loc Cert.OutIdeal.main_arg1))
      (m ((c : Thread Cert.OutIdeal.nD Cert.OutIdeal.τ).loc Cert.OutIdeal.main_arg2))
      (m ((c : Thread Cert.OutIdeal.nD Cert.OutIdeal.τ).loc Cert.OutIdeal.main_arg3))
      = G5 m c := by
  funext i
  obtain ⟨r, k, rfl⟩ : ∃ (r : Fin 16384) (k : Fin 2048), i = ix2 r k := ⟨i 0, i 1, eq_ix2 i⟩
  refine (Cert.OutRefIdeal.Rows.result_apply _ _ _ _ r k).trans ?_
  unfold G5 hs ga gb wo
  rfl

/-- The ideal projection computes the reference's function. -/
theorem algebraic : Cert.algebraic_OutIdeal_OutRefIdeal := by
  pair_intro
  · run_from Cert.OutIdeal.Result.run m g
  · hlo_run
    rw [(hagree c).2.1, (hagree c).2.2.1]
    exact results_eq m c

/-- The projection's frame. -/
theorem frame : Cert.quiescent_Out := fun m ρ _ => Cert.Out.Gen.frame m ρ

/-- The ideal projection's frame. -/
theorem frame_ideal : Cert.quiescent_OutIdeal := fun m ρ _ => Cert.OutIdeal.Gen.frame m ρ

/-- The reference's frame. -/
theorem frame_ref : Cert.quiescent_OutRefIdeal := fun m ρ _ =>
  (θ_run Cert.OutRefIdeal.defs _ _).mono (fun r h => ⟨fun c => (h c).2, sem_eq_zero_of_no_sems rfl r.2⟩)
    (Cert.OutRefIdeal.Value.run m ρ)

end Cert.OutClaim

end
end
-- ==== Proof.lean ====
module

public import proofs.«01_k».proof.Defs
public import proofs.«01_k».proof.Proof.Ffn.Claim
public import proofs.«01_k».proof.Proof.Odd.Claim
public import proofs.«01_k».proof.Proof.In.Claim
public import proofs.«01_k».proof.Proof.Out.Claim
public import proofs.«01_k».proof.Proof.Gen.Odd
public import proofs.«01_k».proof.Proof.Gen.In
public import proofs.«01_k».proof.Proof.Gen.Out
public import Idealize.ShloMosaic.Adequacy
public import Idealize.ShloMosaic.Init

@[expose] public section

noncomputable section

namespace Cert.Proof

open Idealize.ShloMosaic Idealize.SL.Sem

/-- Every claim of the test. -/
theorem claim : Cert.Claim := ⟨Cert.Ffn.Gen.facts, Cert.FfnIdeal.Gen.facts, Cert.FfnRefIdeal.Gen.facts,
  Cert.Odd.Gen.facts, Cert.OddIdeal.Gen.facts, Cert.OddRefIdeal.Gen.facts,
  Cert.In.Gen.facts, Cert.InIdeal.Gen.facts, Cert.InRefIdeal.Gen.facts,
  Cert.Out.Gen.facts, Cert.OutIdeal.Gen.facts, Cert.OutRefIdeal.Gen.facts,
  Cert.FfnClaim.frame, Cert.FfnClaim.frame_ideal, Cert.FfnClaim.frame_ref,
  Cert.OddClaim.frame, Cert.OddClaim.frame_ideal, Cert.OddClaim.frame_ref,
  Cert.InClaim.frame, Cert.InClaim.frame_ideal, Cert.InClaim.frame_ref,
  Cert.OutClaim.frame, Cert.OutClaim.frame_ideal, Cert.OutClaim.frame_ref,
  trivial, Cert.FfnClaim.algebraic, trivial, Cert.OddClaim.algebraic,
  trivial, Cert.InClaim.algebraic, trivial, Cert.OutClaim.algebraic⟩

end Cert.Proof

end
